-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lses [hPre_finite_lses : Cert.Pre_finite_lses.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lses.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20)) (m ((c.tc : Thread Cert.MergeIdeal.nD Cert.MergeIdeal.τ).loc Cert.MergeIdeal.main_arg21))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_lses [hPre_finite_lses : Cert.Pre_finite_lses.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_lses.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20)) (m ((c.tc : Thread Cert.MergeReferenceIdeal.nD Cert.MergeReferenceIdeal.τ).loc Cert.MergeReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19)
      ∧ r.2.mem ((c.tc : Thread Cert.Merge.nD Cert.Merge.τ).loc Cert.Merge.main_arg20) = m ((c.tc : Thread Cert.Merge.nD Cert.Merge.τ).loc Cert.Merge.main_arg20)
      ∧ r.2.mem ((c.tc : Thread Cert.Merge.nD Cert.Merge.τ).loc Cert.Merge.main_arg21) = m ((c.tc : Thread Cert.Merge.nD Cert.Merge.τ).loc Cert.Merge.main_arg21))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20)
      ∧ r.2.mem ((c.tc : Thread Cert.MergeIdeal.nD Cert.MergeIdeal.τ).loc Cert.MergeIdeal.main_arg21) = m ((c.tc : Thread Cert.MergeIdeal.nD Cert.MergeIdeal.τ).loc Cert.MergeIdeal.main_arg21))
      ∧ r.2.sem = fun _ => 0)

def quiescent_MergeIdeal_pre_finite_lses [hMergeIdeal : Cert.MergeIdeal.Facts] [hPre_finite_lses : Cert.Pre_finite_lses.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lses m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20)
      ∧ r.2.mem ((c.tc : Thread Cert.MergeIdeal.nD Cert.MergeIdeal.τ).loc Cert.MergeIdeal.main_arg21) = m ((c.tc : Thread Cert.MergeIdeal.nD Cert.MergeIdeal.τ).loc Cert.MergeIdeal.main_arg21))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19)
      ∧ r.2.mem ((c.tc : Thread Cert.MergeReferenceIdeal.nD Cert.MergeReferenceIdeal.τ).loc Cert.MergeReferenceIdeal.main_arg20) = m ((c.tc : Thread Cert.MergeReferenceIdeal.nD Cert.MergeReferenceIdeal.τ).loc Cert.MergeReferenceIdeal.main_arg20)
      ∧ r.2.mem ((c.tc : Thread Cert.MergeReferenceIdeal.nD Cert.MergeReferenceIdeal.τ).loc Cert.MergeReferenceIdeal.main_arg21) = m ((c.tc : Thread Cert.MergeReferenceIdeal.nD Cert.MergeReferenceIdeal.τ).loc Cert.MergeReferenceIdeal.main_arg21))
      ∧ r.2.sem = fun _ => 0)

def quiescent_MergeReferenceIdeal_pre_finite_lses [hMergeReferenceIdeal : Cert.MergeReferenceIdeal.Facts] [hPre_finite_lses : Cert.Pre_finite_lses.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_lses m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19)
      ∧ r.2.mem ((c.tc : Thread Cert.MergeReferenceIdeal.nD Cert.MergeReferenceIdeal.τ).loc Cert.MergeReferenceIdeal.main_arg20) = m ((c.tc : Thread Cert.MergeReferenceIdeal.nD Cert.MergeReferenceIdeal.τ).loc Cert.MergeReferenceIdeal.main_arg20)
      ∧ r.2.mem ((c.tc : Thread Cert.MergeReferenceIdeal.nD Cert.MergeReferenceIdeal.τ).loc Cert.MergeReferenceIdeal.main_arg21) = m ((c.tc : Thread Cert.MergeReferenceIdeal.nD Cert.MergeReferenceIdeal.τ).loc Cert.MergeReferenceIdeal.main_arg21))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Merge_MergeIdeal : Prop :=
  True

def algebraic_MergeIdeal_MergeReferenceIdeal_pre_finite_lses [hMergeIdeal : Cert.MergeIdeal.Facts] [hMergeReferenceIdeal : Cert.MergeReferenceIdeal.Facts] [hPre_finite_lses : Cert.Pre_finite_lses.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_finite_lses m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)
      ∧ m' ((c.tc : Thread Cert.MergeReferenceIdeal.nD Cert.MergeReferenceIdeal.τ).loc Cert.MergeReferenceIdeal.main_arg19) = m ((c.tc : Thread Cert.MergeIdeal.nD Cert.MergeIdeal.τ).loc Cert.MergeIdeal.main_arg19)
      ∧ m' ((c.tc : Thread Cert.MergeReferenceIdeal.nD Cert.MergeReferenceIdeal.τ).loc Cert.MergeReferenceIdeal.main_arg20) = m ((c.tc : Thread Cert.MergeIdeal.nD Cert.MergeIdeal.τ).loc Cert.MergeIdeal.main_arg20)
      ∧ m' ((c.tc : Thread Cert.MergeReferenceIdeal.nD Cert.MergeReferenceIdeal.τ).loc Cert.MergeReferenceIdeal.main_arg21) = m ((c.tc : Thread Cert.MergeIdeal.nD Cert.MergeIdeal.τ).loc Cert.MergeIdeal.main_arg21)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
          ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20)
          ∧ r.2.mem ((c.tc : Thread Cert.MergeIdeal.nD Cert.MergeIdeal.τ).loc Cert.MergeIdeal.main_arg21) = m ((c.tc : Thread Cert.MergeIdeal.nD Cert.MergeIdeal.τ).loc Cert.MergeIdeal.main_arg21))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v175) = v0 c
          ∧ r.2.mem ((c.tc : Thread Cert.MergeReferenceIdeal.nD Cert.MergeReferenceIdeal.τ).loc Cert.MergeReferenceIdeal.main_v177) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18)
          ∧ r.2.mem ((c.tc : Thread Cert.MergeReferenceIdeal.nD Cert.MergeReferenceIdeal.τ).loc Cert.MergeReferenceIdeal.main_arg19) = m' ((c.tc : Thread Cert.MergeReferenceIdeal.nD Cert.MergeReferenceIdeal.τ).loc Cert.MergeReferenceIdeal.main_arg19)
          ∧ r.2.mem ((c.tc : Thread Cert.MergeReferenceIdeal.nD Cert.MergeReferenceIdeal.τ).loc Cert.MergeReferenceIdeal.main_arg20) = m' ((c.tc : Thread Cert.MergeReferenceIdeal.nD Cert.MergeReferenceIdeal.τ).loc Cert.MergeReferenceIdeal.main_arg20)
          ∧ r.2.mem ((c.tc : Thread Cert.MergeReferenceIdeal.nD Cert.MergeReferenceIdeal.τ).loc Cert.MergeReferenceIdeal.main_arg21) = m' ((c.tc : Thread Cert.MergeReferenceIdeal.nD Cert.MergeReferenceIdeal.τ).loc Cert.MergeReferenceIdeal.main_arg21))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hPre_finite : Cert.Pre_finite.Facts) (hPre_finite_lses : Cert.Pre_finite_lses.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeIdeal_pre_finite_lses (hMergeIdeal := hMergeIdeal) (hPre_finite_lses := hPre_finite_lses)
    ∧ quiescent_MergeReferenceIdeal (hMergeReferenceIdeal := hMergeReferenceIdeal)
    ∧ quiescent_MergeReferenceIdeal_pre_finite_lses (hMergeReferenceIdeal := hMergeReferenceIdeal) (hPre_finite_lses := hPre_finite_lses)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal_pre_finite_lses (hMergeIdeal := hMergeIdeal) (hMergeReferenceIdeal := hMergeReferenceIdeal) (hPre_finite_lses := hPre_finite_lses)
-- ==== Pre_finite.lean ====
abbrev S16384x512 : Shape := ⟨2, ![16384, 512]⟩
abbrev S32x8x1536 : Shape := ⟨3, ![32, 8, 1536]⟩
abbrev S1536x128 : Shape := ⟨2, ![1536, 128]⟩
abbrev S32x2x8x64x128 : Shape := ⟨5, ![32, 2, 8, 64, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) (main_arg3 : FVec F S32x8x1536 .f32) (main_arg4 : FVec F S1536x128 .f32) (main_arg5 : FVec F S1536x128 .f32) (main_arg6 : FVec F S32x2x8x64x128 .f32) : IVec S16384x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v3 main_v7
  main_v8
-- ==== Pre_finite_lses.lean ====
abbrev S16384x1024 : Shape := ⟨2, ![16384, 1024]⟩
abbrev S16384x512 : Shape := ⟨2, ![16384, 512]⟩
abbrev S16384x128 : Shape := ⟨2, ![16384, 128]⟩
abbrev S16384x256 : Shape := ⟨2, ![16384, 256]⟩
abbrev S1x1024 : Shape := ⟨2, ![1, 1024]⟩
abbrev S1024x7680 : Shape := ⟨2, ![1024, 7680]⟩
abbrev S1x512 : Shape := ⟨2, ![1, 512]⟩
abbrev S4x128x128 : Shape := ⟨3, ![4, 128, 128]⟩
abbrev S128x512 : Shape := ⟨2, ![128, 512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S16384x128 .f32) (main_arg5 : FVec F S16384x128 .f32) (main_arg6 : FVec F S16384x128 .f32) (main_arg7 : FVec F S16384x256 .f32) (main_arg8 : FVec F S1x1024 .f32) (main_arg9 : FVec F S1024x7680 .bf16) (main_arg10 : FVec F S1x512 .f32) (main_arg11 : FVec F S4x128x128 .bf16) (main_arg12 : FVec F S128x512 .f32) (main_arg13 : FVec F S512x1024 .bf16) (main_arg14 : FVec F S512x1024 .bf16) (main_arg15 : FVec F S1024x1024 .bf16) (main_arg16 : FVec F S1x1024 .f32) (main_arg17 : FVec F S1024x4096 .bf16) (main_arg18 : FVec F S4096x1024 .bf16) (main_arg19 : FVec F S1x1024 .f32) (main_arg20 : FVec F S1024x1024 .bf16) (main_arg21 : FVec F S256x1024 .bf16) : IVec S16384x128 1 :=
  let main_v0 : FVec F S16384x128 .f32 := Host.absf main_arg4
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_v3 : FVec F S16384x128 .f32 := Host.absf main_arg5
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : IVec S16384x128 1 := andi main_v2 main_v5
  let main_v7 : FVec F S16384x128 .f32 := Host.absf main_arg6
  let main_cst_1 : FVec F S_ .f32 := constant S_ .f32 0x7F800000#32
  let main_v8 : FVec F S16384x128 .f32 := broadcastInDim S16384x128 ![] bcast_S_S16384x128 main_cst_1
  let main_v9 : IVec S16384x128 1 := cmpf .olt main_v7 main_v8
  let main_v10 : IVec S16384x128 1 := andi main_v6 main_v9
  main_v10
-- ==== Kernel.lean ====
abbrev S16384x512 : Shape := ⟨2, ![16384, 512]⟩
abbrev S32x8x1536 : Shape := ⟨3, ![32, 8, 1536]⟩
abbrev S1536x128 : Shape := ⟨2, ![1536, 128]⟩
abbrev S32x2x8x64x128 : Shape := ⟨5, ![32, 2, 8, 64, 128]⟩
abbrev S16384x128 : Shape := ⟨2, ![16384, 128]⟩
abbrev S32x8x512 : Shape := ⟨3, ![32, 8, 512]⟩
abbrev S32x8x128 : Shape := ⟨3, ![32, 8, 128]⟩
abbrev S2048x512 : Shape := ⟨2, ![2048, 512]⟩
abbrev S128x512 : Shape := ⟨2, ![128, 512]⟩
abbrev S4x8x512 : Shape := ⟨3, ![4, 8, 512]⟩
abbrev S512x128 : Shape := ⟨2, ![512, 128]⟩
abbrev S4x2x8x64x128 : Shape := ⟨5, ![4, 2, 8, 64, 128]⟩
abbrev S2048x128 : Shape := ⟨2, ![2048, 128]⟩
abbrev S4x8x128 : Shape := ⟨3, ![4, 8, 128]⟩
abbrev S256x256 : Shape := ⟨2, ![256, 256]⟩
abbrev S128x128 : Shape := ⟨2, ![128, 128]⟩
abbrev S16x256 : Shape := ⟨2, ![16, 256]⟩
abbrev S8x128 : Shape := ⟨2, ![8, 128]⟩
abbrev S120x128 : Shape := ⟨2, ![120, 128]⟩
abbrev S256x128 : Shape := ⟨2, ![256, 128]⟩
abbrev S128x256 : Shape := ⟨2, ![128, 256]⟩
abbrev S144x256 : Shape := ⟨2, ![144, 256]⟩
abbrev S1x8x512 : Shape := ⟨3, ![1, 8, 512]⟩
abbrev S8x512 : Shape := ⟨2, ![8, 512]⟩
abbrev S8x256 : Shape := ⟨2, ![8, 256]⟩
abbrev S64x256 : Shape := ⟨2, ![64, 256]⟩
abbrev S1x1x8x64x128 : Shape := ⟨5, ![1, 1, 8, 64, 128]⟩
abbrev S8x64x128 : Shape := ⟨3, ![8, 64, 128]⟩
abbrev S512x256 : Shape := ⟨2, ![512, 256]⟩
abbrev S64x512 : Shape := ⟨2, ![64, 512]⟩
abbrev S64 : Shape := ⟨1, ![64]⟩
abbrev S64x1 : Shape := ⟨2, ![64, 1]⟩
abbrev S8x64 : Shape := ⟨2, ![8, 64]⟩
abbrev S8x1 : Shape := ⟨2, ![8, 1]⟩
abbrev S1x8x128 : Shape := ⟨3, ![1, 8, 128]⟩
abbrev S256 : Shape := ⟨1, ![256]⟩
abbrev S1x256 : Shape := ⟨2, ![1, 256]⟩
abbrev S64x128 : Shape := ⟨2, ![64, 128]⟩
abbrev S1x128 : Shape := ⟨2, ![1, 128]⟩

abbrev nBuf : Space → Nat
  | .hbm => 12
  | .vmem => 26
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S32x8x1536, .f32⟩
  | .hbm, ⟨4, _⟩ => ⟨S1536x128, .f32⟩
  | .hbm, ⟨5, _⟩ => ⟨S1536x128, .f32⟩
  | .hbm, ⟨6, _⟩ => ⟨S32x2x8x64x128, .f32⟩
  | .hbm, ⟨7, _⟩ => ⟨S16384x512, .bf16⟩
  | .hbm, ⟨8, _⟩ => ⟨S16384x128, .f32⟩
  | .hbm, ⟨9, _⟩ => ⟨S32x8x512, .f32⟩
  | .hbm, ⟨10, _⟩ => ⟨S32x8x128, .f32⟩
  | .hbm, ⟨11, _⟩ => ⟨S32x2x8x64x128, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S128x512, .bf16⟩
  | .local _ .vmem, ⟨5, _⟩ => ⟨S128x512, .bf16⟩
  | .local _ .vmem, ⟨6, _⟩ => ⟨S2048x512, .bf16⟩
  | .local _ .vmem, ⟨7, _⟩ => ⟨S2048x512, .bf16⟩
  | .local _ .vmem, ⟨8, _⟩ => ⟨S128x512, .bf16⟩
  | .local _ .vmem, ⟨9, _⟩ => ⟨S128x512, .bf16⟩
  | .local _ .vmem, ⟨10, _⟩ => ⟨S4x8x512, .f32⟩
  | .local _ .vmem, ⟨11, _⟩ => ⟨S4x8x512, .f32⟩
  | .local _ .vmem, ⟨12, _⟩ => ⟨S512x128, .f32⟩
  | .local _ .vmem, ⟨13, _⟩ => ⟨S512x128, .f32⟩
  | .local _ .vmem, ⟨14, _⟩ => ⟨S4x2x8x64x128, .f32⟩
  | .local _ .vmem, ⟨15, _⟩ => ⟨S4x2x8x64x128, .f32⟩
  | .local _ .vmem, ⟨16, _⟩ => ⟨S2048x512, .bf16⟩
  | .local _ .vmem, ⟨17, _⟩ => ⟨S2048x512, .bf16⟩
  | .local _ .vmem, ⟨18, _⟩ => ⟨S2048x128, .f32⟩
  | .local _ .vmem, ⟨19, _⟩ => ⟨S2048x128, .f32⟩
  | .local _ .vmem, ⟨20, _⟩ => ⟨S4x8x512, .f32⟩
  | .local _ .vmem, ⟨21, _⟩ => ⟨S4x8x512, .f32⟩
  | .local _ .vmem, ⟨22, _⟩ => ⟨S4x8x128, .f32⟩
  | .local _ .vmem, ⟨23, _⟩ => ⟨S4x8x128, .f32⟩
  | .local _ .vmem, ⟨24, _⟩ => ⟨S4x2x8x64x128, .f32⟩
  | .local _ .vmem, ⟨25, _⟩ => ⟨S4x2x8x64x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  let c0_i32_1 : BitVec 32 := 0#32
  let c0_i32_2 : BitVec 32 := 0#32
  let c0_i32_3 : BitVec 32 := 0#32
  ![v3.toNat, c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  let c0_i32_1 : BitVec 32 := 0#32
  let c0_i32_2 : BitVec 32 := 0#32
  let c0_i32_3 : BitVec 32 := 0#32
  ![v3.toNat, c0_i32.toNat, c0_i32_0.toNat, c0_i32_1.toNat, c0_i32_2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S4x2x8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S4x2x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S16384x512 : Shape := ⟨2, ![16384, 512]⟩
abbrev S32x8x1536 : Shape := ⟨3, ![32, 8, 1536]⟩
abbrev S1536x128 : Shape := ⟨2, ![1536, 128]⟩
abbrev S32x2x8x64x128 : Shape := ⟨5, ![32, 2, 8, 64, 128]⟩
abbrev S4x4096x8x64 : Shape := ⟨4, ![4, 4096, 8, 64]⟩
abbrev S4x4096x1x8x64 : Shape := ⟨5, ![4, 4096, 1, 8, 64]⟩
abbrev S4x1x4096x8x64 : Shape := ⟨5, ![4, 1, 4096, 8, 64]⟩
abbrev S4x1x32x128x8x64 : Shape := ⟨6, ![4, 1, 32, 128, 8, 64]⟩
abbrev S4x1x31x128x8x64 : Shape := ⟨6, ![4, 1, 31, 128, 8, 64]⟩
abbrev S_ : Shape := ⟨0, ![]⟩
abbrev S4x1x32x256x8x64 : Shape := ⟨6, ![4, 1, 32, 256, 8, 64]⟩
abbrev S4x1x32x8x128x256 : Shape := ⟨6, ![4, 1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S4x1x32x8x128 : Shape := ⟨5, ![4, 1, 32, 8, 128]⟩
abbrev S4x1x32x8x128x1 : Shape := ⟨6, ![4, 1, 32, 8, 128, 1]⟩
abbrev S4x1x32x8x128x64 : Shape := ⟨6, ![4, 1, 32, 8, 128, 64]⟩
abbrev S4x1x32x128x8 : Shape := ⟨5, ![4, 1, 32, 128, 8]⟩
abbrev S4x1x4096x8 : Shape := ⟨4, ![4, 1, 4096, 8]⟩
abbrev S4x4096x1x8 : Shape := ⟨4, ![4, 4096, 1, 8]⟩
abbrev S4x4096x8 : Shape := ⟨3, ![4, 4096, 8]⟩
abbrev S16384x8 : Shape := ⟨2, ![16384, 8]⟩
abbrev S16384x128 : Shape := ⟨2, ![16384, 128]⟩

abbrev nBuf : Space → Nat
  | .hbm => 105
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S32x8x1536, .f32⟩
  | .hbm, ⟨4, _⟩ => ⟨S1536x128, .f32⟩
  | .hbm, ⟨5, _⟩ => ⟨S1536x128, .f32⟩
  | .hbm, ⟨6, _⟩ => ⟨S32x2x8x64x128, .f32⟩
  | .hbm, ⟨7, _⟩ => ⟨S4x4096x8x64, .bf16⟩
  | .hbm, ⟨8, _⟩ => ⟨S4x4096x8x64, .bf16⟩
  | .hbm, ⟨9, _⟩ => ⟨S4x4096x8x64, .bf16⟩
  | .hbm, ⟨10, _⟩ => ⟨S4x4096x8x64, .f32⟩
  | .hbm, ⟨11, _⟩ => ⟨S4x4096x1x8x64, .f32⟩
  | .hbm, ⟨12, _⟩ => ⟨S4x1x4096x8x64, .f32⟩
  | .hbm, ⟨13, _⟩ => ⟨S4x1x32x128x8x64, .f32⟩
  | .hbm, ⟨14, _⟩ => ⟨S4x4096x8x64, .f32⟩
  | .hbm, ⟨15, _⟩ => ⟨S4x4096x1x8x64, .f32⟩
  | .hbm, ⟨16, _⟩ => ⟨S4x1x4096x8x64, .f32⟩
  | .hbm, ⟨17, _⟩ => ⟨S4x1x32x128x8x64, .f32⟩
  | .hbm, ⟨18, _⟩ => ⟨S4x1x31x128x8x64, .f32⟩
  | .hbm, ⟨19, _⟩ => ⟨S_, .i32⟩
  | .hbm, ⟨20, _⟩ => ⟨S_, .f32⟩
  | .hbm, ⟨21, _⟩ => ⟨S4x1x32x128x8x64, .f32⟩
  | .hbm, ⟨22, _⟩ => ⟨S4x1x32x256x8x64, .f32⟩
  | .hbm, ⟨23, _⟩ => ⟨S4x4096x8x64, .f32⟩
  | .hbm, ⟨24, _⟩ => ⟨S4x4096x1x8x64, .f32⟩
  | .hbm, ⟨25, _⟩ => ⟨S4x1x4096x8x64, .f32⟩
  | .hbm, ⟨26, _⟩ => ⟨S4x1x32x128x8x64, .f32⟩
  | .hbm, ⟨27, _⟩ => ⟨S4x1x31x128x8x64, .f32⟩
  | .hbm, ⟨28, _⟩ => ⟨S_, .i32⟩
  | .hbm, ⟨29, _⟩ => ⟨S_, .f32⟩
  | .hbm, ⟨30, _⟩ => ⟨S4x1x32x128x8x64, .f32⟩
  | .hbm, ⟨31, _⟩ => ⟨S4x1x32x256x8x64, .f32⟩
  | .hbm, ⟨32, _⟩ => ⟨S4x1x32x8x128x256, .f32⟩
  | .hbm, ⟨33, _⟩ => ⟨S_, .f32⟩
  | .hbm, ⟨34, _⟩ => ⟨S_, .f32⟩
  | .hbm, ⟨35, _⟩ => ⟨S4x1x32x8x128x256, .f32⟩
  | .hbm, ⟨36, _⟩ => ⟨S4x1x32x8x128x256, .f32⟩
  | .hbm, ⟨37, _⟩ => ⟨S128, .i32⟩
  | .hbm, ⟨38, _⟩ => ⟨S128x1, .i32⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S32, .i32⟩
  | .hbm, ⟨55, _⟩ => ⟨S32x1x1, .i32⟩
  | .hbm, ⟨56, _⟩ => ⟨S_, .i32⟩
  | .hbm, ⟨57, _⟩ => ⟨S32x1x1, .i32⟩
  | .hbm, ⟨58, _⟩ => ⟨S32x1x1, .i1⟩
  | .hbm, ⟨59, _⟩ => ⟨S_, .i32⟩
  | .hbm, ⟨60, _⟩ => ⟨S1x256, .i32⟩
  | .hbm, ⟨61, _⟩ => ⟨S1x256, .i1⟩
  | .hbm, ⟨62, _⟩ => ⟨S1x1x256, .i1⟩
  | .hbm, ⟨63, _⟩ => ⟨S32x1x256, .i1⟩
  | .hbm, ⟨64, _⟩ => ⟨S32x1x256, .i1⟩
  | .hbm, ⟨65, _⟩ => ⟨S32x1x256, .i1⟩
  | .hbm, ⟨66, _⟩ => ⟨S1x128x256, .i1⟩
  | .hbm, ⟨67, _⟩ => ⟨S32x128x256, .i1⟩
  | .hbm, ⟨68, _⟩ => ⟨S32x128x256, .i1⟩
  | .hbm, ⟨69, _⟩ => ⟨S32x128x256, .i1⟩
  | .hbm, ⟨70, _⟩ => ⟨S1x1x32x1x128x256, .i1⟩
  | .hbm, ⟨71, _⟩ => ⟨S_, .f32⟩
  | .hbm, ⟨72, _⟩ => ⟨S_, .f32⟩
  | .hbm, ⟨73, _⟩ => ⟨S4x1x32x8x128x256, .i1⟩
  | .hbm, ⟨74, _⟩ => ⟨S4x1x32x8x128x256, .f32⟩
  | .hbm, ⟨75, _⟩ => ⟨S4x1x32x8x128x256, .f32⟩
  | .hbm, ⟨76, _⟩ => ⟨S_, .f32⟩
  | .hbm, ⟨77, _⟩ => ⟨S4x1x32x8x128, .f32⟩
  | .hbm, ⟨78, _⟩ => ⟨S4x1x32x8x128x1, .f32⟩
  | .hbm, ⟨79, _⟩ => ⟨S4x1x32x8x128x256, .f32⟩
  | .hbm, ⟨80, _⟩ => ⟨S4x1x32x8x128x256, .f32⟩
  | .hbm, ⟨81, _⟩ => ⟨S4x1x32x8x128x256, .f32⟩
  | .hbm, ⟨82, _⟩ => ⟨S_, .f32⟩
  | .hbm, ⟨83, _⟩ => ⟨S4x1x32x8x128, .f32⟩
  | .hbm, ⟨84, _⟩ => ⟨S4x1x32x8x128x1, .f32⟩
  | .hbm, ⟨85, _⟩ => ⟨S4x1x32x8x128x64, .f32⟩
  | .hbm, ⟨86, _⟩ => ⟨S4x1x32x8x128x64, .f32⟩
  | .hbm, ⟨87, _⟩ => ⟨S4x1x32x8x128x64, .f32⟩
  | .hbm, ⟨88, _⟩ => ⟨S4x1x32x8x128x1, .f32⟩
  | .hbm, ⟨89, _⟩ => ⟨S4x1x32x8x128x1, .f32⟩
  | .hbm, ⟨90, _⟩ => ⟨S4x1x32x8x128, .f32⟩
  | .hbm, ⟨91, _⟩ => ⟨S4x1x32x128x8x64, .f32⟩
  | .hbm, ⟨92, _⟩ => ⟨S4x1x4096x8x64, .f32⟩
  | .hbm, ⟨93, _⟩ => ⟨S4x4096x1x8x64, .f32⟩
  | .hbm, ⟨94, _⟩ => ⟨S4x4096x8x64, .f32⟩
  | .hbm, ⟨95, _⟩ => ⟨S4x1x32x128x8, .f32⟩
  | .hbm, ⟨96, _⟩ => ⟨S4x1x4096x8, .f32⟩
  | .hbm, ⟨97, _⟩ => ⟨S4x4096x1x8, .f32⟩
  | .hbm, ⟨98, _⟩ => ⟨S4x4096x8, .f32⟩
  | .hbm, ⟨99, _⟩ => ⟨S16384x512, .f32⟩
  | .hbm, ⟨100, _⟩ => ⟨S16384x512, .bf16⟩
  | .hbm, ⟨101, _⟩ => ⟨S16384x8, .f32⟩
  | .hbm, ⟨102, _⟩ => ⟨S_, .i32⟩
  | .hbm, ⟨103, _⟩ => ⟨S_, .f32⟩
  | .hbm, ⟨104, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_9 : Ref sig .tc := ⟨.hbm, 102, rfl⟩
abbrev main_call3_v0 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x128 : Shape := ⟨2, ![16384, 128]⟩
abbrev S16384x256 : Shape := ⟨2, ![16384, 256]⟩
abbrev S1x1024 : Shape := ⟨2, ![1, 1024]⟩
abbrev S1024x7680 : Shape := ⟨2, ![1024, 7680]⟩
abbrev S1x512 : Shape := ⟨2, ![1, 512]⟩
abbrev S4x128x128 : Shape := ⟨3, ![4, 128, 128]⟩
abbrev S128x512 : Shape := ⟨2, ![128, 512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S4x128x512 : Shape := ⟨3, ![4, 128, 512]⟩
abbrev S256x512 : Shape := ⟨2, ![256, 512]⟩
abbrev S256x128 : Shape := ⟨2, ![256, 128]⟩
abbrev S256x256 : Shape := ⟨2, ![256, 256]⟩
abbrev S1024x512 : Shape := ⟨2, ![1024, 512]⟩
abbrev S1x128x512 : Shape := ⟨3, ![1, 128, 512]⟩
abbrev S4x256x128 : Shape := ⟨3, ![4, 256, 128]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S64x128 : Shape := ⟨2, ![64, 128]⟩
abbrev S1x64x128 : Shape := ⟨3, ![1, 64, 128]⟩
abbrev S1x256x128 : Shape := ⟨3, ![1, 256, 128]⟩
abbrev S16x128 : Shape := ⟨2, ![16, 128]⟩
abbrev S1x16x128 : Shape := ⟨3, ![1, 16, 128]⟩

abbrev nBuf : Space → Nat
  | .hbm => 24
  | .vmem => 43
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x256, .f32⟩
  | .hbm, ⟨8, _⟩ => ⟨S1x1024, .f32⟩
  | .hbm, ⟨9, _⟩ => ⟨S1024x7680, .bf16⟩
  | .hbm, ⟨10, _⟩ => ⟨S1x512, .f32⟩
  | .hbm, ⟨11, _⟩ => ⟨S4x128x128, .bf16⟩
  | .hbm, ⟨12, _⟩ => ⟨S128x512, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1024x1024, .bf16⟩
  | .hbm, ⟨21, _⟩ => ⟨S256x1024, .bf16⟩
  | .hbm, ⟨22, _⟩ => ⟨S16384x1024, .f32⟩
  | .hbm, ⟨23, _⟩ => ⟨S4x128x512, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x256, .f32⟩
  | .local _ .vmem, ⟨15, _⟩ => ⟨S256x256, .f32⟩
  | .local _ .vmem, ⟨16, _⟩ => ⟨S1x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1x512, .f32⟩
  | .local _ .vmem, ⟨24, _⟩ => ⟨S4x128x128, .bf16⟩
  | .local _ .vmem, ⟨25, _⟩ => ⟨S128x512, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S1x1024, .f32⟩
  | .local _ .vmem, ⟨30, _⟩ => ⟨S1024x4096, .bf16⟩
  | .local _ .vmem, ⟨31, _⟩ => ⟨S4096x1024, .bf16⟩
  | .local _ .vmem, ⟨32, _⟩ => ⟨S1x1024, .f32⟩
  | .local _ .vmem, ⟨33, _⟩ => ⟨S1024x1024, .bf16⟩
  | .local _ .vmem, ⟨34, _⟩ => ⟨S256x1024, .bf16⟩
  | .local _ .vmem, ⟨35, _⟩ => ⟨S256x1024, .f32⟩
  | .local _ .vmem, ⟨36, _⟩ => ⟨S256x1024, .f32⟩
  | .local _ .vmem, ⟨37, _⟩ => ⟨S1x128x512, .f32⟩
  | .local _ .vmem, ⟨38, _⟩ => ⟨S1x128x512, .f32⟩
  | .local _ .vmem, ⟨39, _⟩ => ⟨S4x256x128, .f32⟩
  | .local _ .vmem, ⟨40, _⟩ => ⟨S256x128, .f32⟩
  | .local _ .vmem, ⟨41, _⟩ => ⟨S4x256x128, .f32⟩
  | .local _ .vmem, ⟨42, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem27_1 : DmaSem sig := 36
abbrev cc0_sem28_0 : DmaSem sig := 37
abbrev cc0_sem28_1 : DmaSem sig := 38

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32 : BitVec 32 := 0#32
  let v60 : BitVec 1 := Scalar.cmpi .ne v59 c0_i32
  v60

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c11_i32 : BitVec 32 := 11#32
  let c0_i32_0 : BitVec 32 := 0#32
  ![c0_i32.toNat, c11_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c12_i32 : BitVec 32 := 12#32
  let c0_i32_0 : BitVec 32 := 0#32
  ![c0_i32.toNat, c12_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c13_i32 : BitVec 32 := 13#32
  let c0_i32_0 : BitVec 32 := 0#32
  ![c0_i32.toNat, c13_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![c0_i32.toNat, c14_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x4096 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S4096x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S256x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x128x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, false]
-- ==== MergeIdeal.lean ====
def κ : String → Option EReal := fun
  | "ln2" => some ((Real.log 2 : ℝ) : EReal)
  | "mask" => some ⊥
  | _ => none
-- ==== MergeReferenceIdeal.lean ====
abbrev S16384x1024 : Shape := ⟨2, ![16384, 1024]⟩
abbrev S16384x512 : Shape := ⟨2, ![16384, 512]⟩
abbrev S16384x128 : Shape := ⟨2, ![16384, 128]⟩
abbrev S16384x256 : Shape := ⟨2, ![16384, 256]⟩
abbrev S1x1024 : Shape := ⟨2, ![1, 1024]⟩
abbrev S1024x7680 : Shape := ⟨2, ![1024, 7680]⟩
abbrev S1x512 : Shape := ⟨2, ![1, 512]⟩
abbrev S4x128x128 : Shape := ⟨3, ![4, 128, 128]⟩
abbrev S128x512 : Shape := ⟨2, ![128, 512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1024x512 : Shape := ⟨2, ![1024, 512]⟩
abbrev S128x128 : Shape := ⟨2, ![128, 128]⟩
abbrev S128x128x4x128 : Shape := ⟨4, ![128, 128, 4, 128]⟩
abbrev S4x128x128x128 : Shape := ⟨4, ![4, 128, 128, 128]⟩
abbrev S128x128x512 : Shape := ⟨3, ![128, 128, 512]⟩
abbrev S1x128x512 : Shape := ⟨3, ![1, 128, 512]⟩
abbrev S16384x8 : Shape := ⟨2, ![16384, 8]⟩
abbrev S64x4x64x128 : Shape := ⟨4, ![64, 4, 64, 128]⟩
abbrev S64x64x4x128 : Shape := ⟨4, ![64, 64, 4, 128]⟩
abbrev S64x16x16x128 : Shape := ⟨4, ![64, 16, 16, 128]⟩
abbrev S1x16384x8 : Shape := ⟨3, ![1, 16384, 8]⟩
abbrev S3x16384x8 : Shape := ⟨3, ![3, 16384, 8]⟩
abbrev S64x4x64x512 : Shape := ⟨4, ![64, 4, 64, 512]⟩
abbrev S64x64x4x512 : Shape := ⟨4, ![64, 64, 4, 512]⟩
abbrev S64x16x16x512 : Shape := ⟨4, ![64, 16, 16, 512]⟩
abbrev S1x16384x512 : Shape := ⟨3, ![1, 16384, 512]⟩
abbrev S3x16384x512 : Shape := ⟨3, ![3, 16384, 512]⟩
abbrev S3x16384x8x64 : Shape := ⟨4, ![3, 16384, 8, 64]⟩
abbrev S3x16384x8x1 : Shape := ⟨4, ![3, 16384, 8, 1]⟩
abbrev S16384x8x64 : Shape := ⟨3, ![16384, 8, 64]⟩
abbrev S16384x4096 : Shape := ⟨2, ![16384, 4096]⟩
abbrev S4x4096x512 : Shape := ⟨3, ![4, 4096, 512]⟩
abbrev S4x128x512 : Shape := ⟨3, ![4, 128, 512]⟩

abbrev nBuf : Space → Nat
  | .hbm => 240
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x512, .bf16⟩
  | 4 => ⟨S16384x128, .f32⟩
  | 5 => ⟨S16384x128, .f32⟩
  | 6 => ⟨S16384x128, .f32⟩
  | 7 => ⟨S16384x256, .f32⟩
  | 8 => ⟨S1x1024, .f32⟩
  | 9 => ⟨S1024x7680, .bf16⟩
  | 10 => ⟨S1x512, .f32⟩
  | 11 => ⟨S4x128x128, .bf16⟩
  | 12 => ⟨S128x512, .f32⟩
  | 13 => ⟨S512x1024, .bf16⟩
  | 14 => ⟨S512x1024, .bf16⟩
  | 15 => ⟨S1024x1024, .bf16⟩
  | 16 => ⟨S1x1024, .f32⟩
  | 17 => ⟨S1024x4096, .bf16⟩
  | 18 => ⟨S4096x1024, .bf16⟩
  | 19 => ⟨S1x1024, .f32⟩
  | 20 => ⟨S1024x1024, .bf16⟩
  | 21 => ⟨S256x1024, .bf16⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1024, .f32⟩
  | 34 => ⟨S16384x1024, .f32⟩
  | 35 => ⟨S16384x1024, .f32⟩
  | 36 => ⟨S16384x1024, .f32⟩
  | 37 => ⟨S1024x7680, .f32⟩
  | 38 => ⟨S1024x512, .f32⟩
  | 39 => ⟨S16384x512, .f32⟩
  | 40 => ⟨S16384x512, .f32⟩
  | 41 => ⟨S16384x512, .f32⟩
  | 42 => ⟨S_, .f32⟩
  | 43 => ⟨S16384x512, .f32⟩
  | 44 => ⟨S16384x512, .f32⟩
  | 45 => ⟨S16384x512, .f32⟩
  | 46 => ⟨S_, .f32⟩
  | 47 => ⟨S16384x512, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S1024x512, .f32⟩
  | 58 => ⟨S16384x512, .f32⟩
  | 59 => ⟨S16384x512, .f32⟩
  | 60 => ⟨S16384x512, .f32⟩
  | 61 => ⟨S_, .f32⟩
  | 62 => ⟨S16384x512, .f32⟩
  | 63 => ⟨S16384x512, .f32⟩
  | 64 => ⟨S16384x512, .f32⟩
  | 65 => ⟨S_, .f32⟩
  | 66 => ⟨S16384x512, .f32⟩
  | 67 => ⟨S16384x512, .f32⟩
  | 68 => ⟨S16384x512, .f32⟩
  | 69 => ⟨S_, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x1, .f32⟩
  | 87 => ⟨S16384x512, .f32⟩
  | 88 => ⟨S16384x512, .f32⟩
  | 89 => ⟨S16384x512, .f32⟩
  | 90 => ⟨S16384x512, .f32⟩
  | 91 => ⟨S1024x1024, .f32⟩
  | 92 => ⟨S16384x1024, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S1024x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S4x128x128, .f32⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S4x128x128, .i1⟩
  | 119 => ⟨S_, .f32⟩
  | 120 => ⟨S4x128x128, .f32⟩
  | 121 => ⟨S4x128x128, .f32⟩
  | 122 => ⟨S128x128x4x128, .f32⟩
  | 123 => ⟨S4x128x128x128, .f32⟩
  | 124 => ⟨S128x128x4x128, .f32⟩
  | 125 => ⟨S128x128x512, .f32⟩
  | 126 => ⟨S1x128x512, .f32⟩
  | 127 => ⟨S128x128x512, .f32⟩
  | _ => ⟨S16384x1024, .f32⟩

abbrev hbmTy0_1 (i : Nat) : BufTy := match i % 128 with
  | 0 => ⟨S128x128x512, .f32⟩
  | 1 => ⟨S16384x512, .f32⟩
  | 2 => ⟨S16384x512, .f32⟩
  | 3 => ⟨S16384x8, .f32⟩
  | 4 => ⟨S64x4x64x128, .f32⟩
  | 5 => ⟨S64x64x4x128, .f32⟩
  | 6 => ⟨S16384x128, .f32⟩
  | 7 => ⟨S16384x8, .f32⟩
  | 8 => ⟨S64x16x16x128, .f32⟩
  | 9 => ⟨S64x16x16x128, .f32⟩
  | 10 => ⟨S16384x128, .f32⟩
  | 11 => ⟨S16384x8, .f32⟩
  | 12 => ⟨S1x16384x8, .f32⟩
  | 13 => ⟨S1x16384x8, .f32⟩
  | 14 => ⟨S1x16384x8, .f32⟩
  | 15 => ⟨S3x16384x8, .f32⟩
  | 16 => ⟨S_, .f32⟩
  | 17 => ⟨S16384x8, .f32⟩
  | 18 => ⟨S1x16384x8, .f32⟩
  | 19 => ⟨S3x16384x8, .f32⟩
  | 20 => ⟨S3x16384x8, .f32⟩
  | 21 => ⟨S3x16384x8, .f32⟩
  | 22 => ⟨S_, .f32⟩
  | 23 => ⟨S16384x8, .f32⟩
  | 24 => ⟨S1x16384x8, .f32⟩
  | 25 => ⟨S3x16384x8, .f32⟩
  | 26 => ⟨S3x16384x8, .f32⟩
  | 27 => ⟨S16384x512, .f32⟩
  | 28 => ⟨S16384x512, .f32⟩
  | 29 => ⟨S64x4x64x512, .f32⟩
  | 30 => ⟨S64x64x4x512, .f32⟩
  | 31 => ⟨S16384x512, .f32⟩
  | 32 => ⟨S16384x512, .f32⟩
  | 33 => ⟨S64x16x16x512, .f32⟩
  | 34 => ⟨S64x16x16x512, .f32⟩
  | 35 => ⟨S16384x512, .f32⟩
  | 36 => ⟨S1x16384x512, .f32⟩
  | 37 => ⟨S1x16384x512, .f32⟩
  | 38 => ⟨S1x16384x512, .f32⟩
  | 39 => ⟨S3x16384x512, .f32⟩
  | 40 => ⟨S3x16384x8x64, .f32⟩
  | 41 => ⟨S3x16384x8x1, .f32⟩
  | 42 => ⟨S3x16384x8x64, .f32⟩
  | 43 => ⟨S3x16384x8x64, .f32⟩
  | 44 => ⟨S_, .f32⟩
  | 45 => ⟨S16384x8x64, .f32⟩
  | 46 => ⟨S16384x512, .f32⟩
  | 47 => ⟨S512x1024, .f32⟩
  | 48 => ⟨S16384x1024, .f32⟩
  | 49 => ⟨S16384x1024, .f32⟩
  | 50 => ⟨S512x1024, .f32⟩
  | 51 => ⟨S16384x1024, .f32⟩
  | 52 => ⟨S16384x1024, .f32⟩
  | 53 => ⟨S16384x1024, .f32⟩
  | 54 => ⟨S1024x1024, .f32⟩
  | 55 => ⟨S16384x1024, .f32⟩
  | 56 => ⟨S16384x1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x1024, .f32⟩
  | 69 => ⟨S16384x1024, .f32⟩
  | 70 => ⟨S16384x1024, .f32⟩
  | 71 => ⟨S16384x1024, .f32⟩
  | 72 => ⟨S1024x4096, .f32⟩
  | 73 => ⟨S16384x4096, .f32⟩
  | 74 => ⟨S_, .f32⟩
  | 75 => ⟨S16384x4096, .f32⟩
  | 76 => ⟨S16384x4096, .f32⟩
  | 77 => ⟨S16384x4096, .f32⟩
  | 78 => ⟨S4096x1024, .f32⟩
  | 79 => ⟨S16384x1024, .f32⟩
  | 80 => ⟨S16384x1024, .f32⟩
  | 81 => ⟨S16384x1024, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .f32⟩
  | 89 => ⟨S16384x1, .f32⟩
  | 90 => ⟨S16384x1, .f32⟩
  | 91 => ⟨S16384x1, .f32⟩
  | 92 => ⟨S16384x1024, .f32⟩
  | 93 => ⟨S16384x1024, .f32⟩
  | 94 => ⟨S16384x1024, .f32⟩
  | 95 => ⟨S16384x1024, .f32⟩
  | 96 => ⟨S1024x1024, .f32⟩
  | 97 => ⟨S16384x1024, .f32⟩
  | 98 => ⟨S16384x1024, .f32⟩
  | 99 => ⟨S16384x1024, .f32⟩
  | 100 => ⟨S_, .f32⟩
  | 101 => ⟨S16384x1024, .f32⟩
  | 102 => ⟨S16384x1024, .f32⟩
  | 103 => ⟨S_, .f32⟩
  | 104 => ⟨S16384x1024, .f32⟩
  | 105 => ⟨S16384x1024, .f32⟩
  | 106 => ⟨S256x1024, .f32⟩
  | 107 => ⟨S16384x1024, .f32⟩
  | 108 => ⟨S16384x1024, .f32⟩
  | 109 => ⟨S16384x1024, .f32⟩
  | 110 => ⟨S4x4096x512, .f32⟩
  | 111 => ⟨S4x128x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_cst_12 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_cst_14 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call0_v0 : Ref sig .tc := ⟨.hbm, 112, rfl⟩
abbrev main_call0_c : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_v5 : Ref sig .tc := ⟨.hbm, 118, rfl⟩
abbrev main_call0_cst : Ref sig .tc := ⟨.hbm, 119, rfl⟩
abbrev main_call0_v6 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_17 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_18 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_19 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_20 : Ref sig .tc := ⟨.hbm, 186, rfl⟩
abbrev main_v134 : Ref sig .tc := ⟨.hbm, 187, rfl⟩
abbrev main_v135 : Ref sig .tc := ⟨.hbm, 188, rfl⟩
abbrev main_cst_21 : Ref sig .tc := ⟨.hbm, 189, rfl⟩
abbrev main_v136 : Ref sig .tc := ⟨.hbm, 190, rfl⟩
abbrev main_v137 : Ref sig .tc := ⟨.hbm, 191, rfl⟩
abbrev main_cst_22 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_call1_cst : Ref sig .tc := ⟨.hbm, 202, rfl⟩
abbrev main_call1_v0 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_23 : Ref sig .tc := ⟨.hbm, 210, rfl⟩
abbrev main_v153 : Ref sig .tc := ⟨.hbm, 211, rfl⟩
abbrev main_v154 : Ref sig .tc := ⟨.hbm, 212, rfl⟩
abbrev main_cst_24 : Ref sig .tc := ⟨.hbm, 213, rfl⟩
abbrev main_v155 : Ref sig .tc := ⟨.hbm, 214, rfl⟩
abbrev main_v156 : Ref sig .tc := ⟨.hbm, 215, rfl⟩
abbrev main_cst_25 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_26 : Ref sig .tc := ⟨.hbm, 228, rfl⟩
abbrev main_v168 : Ref sig .tc := ⟨.hbm, 229, rfl⟩
abbrev main_v169 : Ref sig .tc := ⟨.hbm, 230, rfl⟩
abbrev main_cst_27 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩

abbrev nD : Nat := 1
abbrev τ : Topo := Topo.v7x

variable {F : FTy → Type} [FloatOps F]
-- ==== Proof.Soft.lean ====
module

public import Idealize.ShloMosaic.Lib.Pipeline.ValueKit
public import Idealize.ShloMosaic.Lib.Pointwise

@[expose] public section

noncomputable section

/-! The softmax of one row of scores over the extended reals, in two spellings: the one that works in powers of two and
    multiplies by a reciprocal, and the plain one that works in powers of e and divides. Scores are real or −∞ (a key the
    query does not see), and at least one is real. -/

namespace Soft

open Idealize.ShloMosaic

variable {n : ℕ}

/-- The greatest score of the row. -/
def top (s : Fin n → EReal) : EReal := Finset.univ.fold max ⊥ s

/-- The unnormalised weight of each key, in powers of two. -/
def wt (s : Fin n → EReal) (k : Fin n) : EReal := Ideal.exp2 (s k - top s)

/-- The attention output of the row for the values `v`: weighted sum times the reciprocal of the weights' sum. -/
def out (s v : Fin n → EReal) : EReal := (∑ k, v k * wt s k) * Ideal.div 1 (∑ k, wt s k)

/-- The natural log of the row's normaliser, from scores in powers of two. -/
def lse (s : Fin n → EReal) : EReal := top s * ((Real.log 2 : ℝ) : EReal) + Ideal.log (∑ k, wt s k)

/-- The plain weight of each key, in powers of e. -/
def wtE (s : Fin n → EReal) (k : Fin n) : EReal := Ideal.exp (s k - top s)

/-- The plain output: weighted sum over the weights' sum. -/
def outE (s v : Fin n → EReal) : EReal := Ideal.div (∑ k, wtE s k * v k) (∑ k, wtE s k)

/-- The plain log of the row's normaliser. -/
def lseE (s : Fin n → EReal) : EReal := top s + Ideal.log (∑ k, wtE s k)

/-- A row of scores as the lemmas need it: real or −∞, one of them real. -/
structure Good (s : Fin n → EReal) : Prop where
  real : ∀ k, s k = ⊥ ∨ ∃ x : ℝ, s k = x
  some : ∃ k, ∃ x : ℝ, s k = x

theorem top_eq_sup (s : Fin n → EReal) : top s = Finset.univ.sup s := rfl

theorem le_top (s : Fin n → EReal) (k : Fin n) : s k ≤ top s := by
  rw [top_eq_sup]; exact Finset.le_sup (Finset.mem_univ k)

/-- The greatest score is one of the scores, and it is real. -/
theorem Good.top_real {s : Fin n → EReal} (h : Good s) : ∃ k, ∃ x : ℝ, s k = x ∧ top s = x := by
  obtain ⟨k0, x0, h0⟩ := h.some
  obtain ⟨k, -, hk⟩ := Finset.exists_mem_eq_sup (Finset.univ : Finset (Fin n)) ⟨k0, Finset.mem_univ k0⟩ s
  rw [← top_eq_sup] at hk
  rcases h.real k with hb | ⟨x, hx⟩
  · have := le_top s k0
    rw [hk, hb, h0] at this
    exact absurd (le_bot_iff.mp this) (EReal.coe_ne_bot _)
  · exact ⟨k, x, hx, hk.trans hx⟩

theorem log2_pos : (0 : ℝ) < Real.log 2 := Real.log_pos (by norm_num)

/-- Scaling the scores by log 2 scales the greatest. -/
theorem Good.top_scale {s : Fin n → EReal} (h : Good s) :
    top (fun k => s k * ((Real.log 2 : ℝ) : EReal)) = top s * ((Real.log 2 : ℝ) : EReal) := by
  have hp : (0 : EReal) ≤ ((Real.log 2 : ℝ) : EReal) := by exact_mod_cast log2_pos.le
  obtain ⟨k, x, hx, ht⟩ := h.top_real
  apply le_antisymm
  · rw [top_eq_sup]
    exact Finset.sup_le fun j _ => mul_le_mul_of_nonneg_right (le_top s j) hp
  · rw [ht, ← hx]
    exact le_top (fun k => s k * ((Real.log 2 : ℝ) : EReal)) k

/-- The two spellings of a weight agree. -/
theorem Good.wtE_scale {s : Fin n → EReal} (h : Good s) (k : Fin n) :
    wtE (fun k => s k * ((Real.log 2 : ℝ) : EReal)) k = wt s k := by
  obtain ⟨_, m, -, ht⟩ := h.top_real
  unfold wtE wt
  rw [h.top_scale, ht]
  rcases h.real k with hb | ⟨x, hx⟩
  · simp only [hb, EReal.bot_mul_coe_of_pos log2_pos, EReal.bot_sub, Ideal.exp_bot, Ideal.exp2_bot]
  · simp only [hx]
    rw [← EReal.coe_mul, ← EReal.coe_mul, ← EReal.coe_sub, ← EReal.coe_sub, Ideal.exp_coe, Ideal.exp2_coe]
    congr 1
    show _ = (2 : ℝ) ^ (x - m)
    rw [Real.rpow_def_of_pos (by norm_num)]
    congr 1; ring

theorem Good.wt_nonneg {s : Fin n → EReal} (h : Good s) (k : Fin n) : 0 ≤ wt s k := by
  obtain ⟨_, m, -, ht⟩ := h.top_real
  unfold wt
  rw [ht]
  rcases h.real k with hb | ⟨x, hx⟩
  · simp only [hb, EReal.bot_sub, Ideal.exp2_bot]; exact le_refl _
  · rw [hx, ← EReal.coe_sub, Ideal.exp2_coe]
    exact_mod_cast (Real.rpow_pos_of_pos (by norm_num) _).le

/-- The weights do not sum to zero: the greatest score's weight is one. -/
theorem Good.den_ne {s : Fin n → EReal} (h : Good s) : (∑ k, wt s k) ≠ 0 := by
  obtain ⟨k, m, hk, ht⟩ := h.top_real
  have h1 : wt s k = 1 := by
    unfold wt
    rw [ht, hk, ← EReal.coe_sub, Ideal.exp2_coe]
    simp
  have h2 : wt s k ≤ ∑ k, wt s k :=
    Finset.single_le_sum (f := fun k => wt s k) (fun j _ => h.wt_nonneg j) (Finset.mem_univ k)
  intro h0
  rw [h0, h1] at h2
  exact absurd h2 (by norm_num)

/-- The two spellings of the output agree. -/
theorem Good.out_eq {s : Fin n → EReal} (h : Good s) (v : Fin n → EReal) :
    outE (fun k => s k * ((Real.log 2 : ℝ) : EReal)) v = out s v := by
  unfold outE out
  simp only [h.wtE_scale]
  unfold Ideal.div
  rw [if_neg h.den_ne, if_neg h.den_ne, one_mul]
  congr 1
  exact Finset.sum_congr rfl fun k _ => mul_comm _ _

/-- The two spellings of the log of the normaliser agree. -/
theorem Good.lse_eq {s : Fin n → EReal} (h : Good s) :
    lseE (fun k => s k * ((Real.log 2 : ℝ) : EReal)) = lse s := by
  unfold lseE lse
  simp only [h.wtE_scale, h.top_scale]

/-- The order of the keys does not matter to the greatest score. -/
theorem top_comp (e : Fin n ≃ Fin n) (s : Fin n → EReal) : top (fun k => s (e k)) = top s := by
  apply le_antisymm
  · rw [top_eq_sup]; exact Finset.sup_le fun j _ => le_top s (e j)
  · rw [top_eq_sup s]
    refine Finset.sup_le fun j _ => ?_
    have := le_top (fun k => s (e k)) (e.symm j)
    simpa using this

theorem outE_comp (e : Fin n ≃ Fin n) (s v : Fin n → EReal) :
    outE (fun k => s (e k)) (fun k => v (e k)) = outE s v := by
  unfold outE wtE
  rw [top_comp e s, Equiv.sum_comp e (fun k => Ideal.exp (s k - top s) * v k),
    Equiv.sum_comp e (fun k => Ideal.exp (s k - top s))]

theorem lseE_comp (e : Fin n ≃ Fin n) (s : Fin n → EReal) : lseE (fun k => s (e k)) = lseE s := by
  unfold lseE wtE
  rw [top_comp e s, Equiv.sum_comp e (fun k => Ideal.exp (s k - top s))]

/-- A value at a key that is not seen has no weight. -/
theorem outE_congr (s v v' : Fin n → EReal) (h : ∀ k, s k = ⊥ ∨ v k = v' k) : outE s v = outE s v' := by
  unfold outE
  congr 1
  refine Finset.sum_congr rfl fun k _ => ?_
  rcases h k with hb | hv
  · unfold wtE
    rw [hb, EReal.bot_sub, Ideal.exp_bot]
    exact (zero_mul _).trans (zero_mul _).symm
  · rw [hv]

/-- A sum of reals is real. -/
theorem sum_real {ι : Type} (t : Finset ι) (f : ι → EReal) (h : ∀ i, ∃ x : ℝ, f i = x) : ∃ x : ℝ, ∑ i ∈ t, f i = x := by
  choose g hg using h
  refine ⟨∑ i ∈ t, g i, ?_⟩
  induction t using Finset.cons_induction with
  | empty => simp
  | cons a t ha ih => rw [Finset.sum_cons, Finset.sum_cons, ih, hg a, EReal.coe_add]

/-- A value whose absolute value is below +∞ is real. -/
theorem real_of_abs_lt (x : EReal) (h : max x (-x) < ⊤) : ∃ r : ℝ, x = r := by
  induction x with
  | bot => simp at h
  | top => simp at h
  | coe r => exact ⟨r, rfl⟩

end Soft
-- ==== Proof.Spec.lean ====
module

public import proofs.«01_k».proof.Proof.Soft

@[expose] public section

noncomputable section

/-! The windowed attention of one group, row by row: 16384 rows (4 sequences of 4096), 512 lanes (8 heads of 64). The
    sequence is cut in blocks of 128 rows; a row sees the 128 keys up to itself, out of its own block (keys 0 to 127 of
    its 256 candidates) and of the block before (keys 128 to 255), none before the start of its sequence. -/

namespace Spec

open Idealize.ShloMosaic

/-- An array of 16384 rows by 512 lanes. -/
abbrev Arr : Type := (⟨2, ![16384, 512]⟩ : Shape).Idx → EReal

/-- The row of candidate key `k` of row `r`. -/
def krow (r : Fin 16384) (k : Fin 256) : Fin 16384 :=
  ⟨if k.val < 128 then 128 * (r.val / 128) + k.val else 128 * (r.val / 128) - 128 + (k.val - 128), by split <;> omega⟩

/-- Whether row `r` sees its candidate key `k`. -/
def Sees (r : Fin 16384) (k : Fin 256) : Prop :=
  k.val ≤ r.val % 128 ∨ (128 + r.val % 128 ≤ k.val ∧ 128 ≤ r.val % 4096)

instance (r : Fin 16384) (k : Fin 256) : Decidable (Sees r k) := inferInstanceAs (Decidable (_ ∨ _))

/-- Lane `d` of head `h`. -/
def lane (h : Fin 8) (d : Fin 64) : Fin 512 := ⟨h.val * 64 + d.val, by omega⟩

/-- The scores of row `r` in head `h`, −∞ at the keys it does not see. -/
def sc (Q K : Arr) (r : Fin 16384) (h : Fin 8) (k : Fin 256) : EReal :=
  if Sees r k then ∑ d : Fin 64, K (ix2 (krow r k) (lane h d)) * Q (ix2 r (lane h d)) else ⊥

/-- The attention's output at row `r` and lane `c`. -/
def attO (Q K V : Arr) (r : Fin 16384) (c : Fin 512) : EReal :=
  Soft.out (sc Q K r ⟨c.val / 64, by omega⟩) fun k => V (ix2 (krow r k) c)

/-- The log of the normaliser of row `r` in head `h`. -/
def attL (Q K : Arr) (r : Fin 16384) (h : Fin 8) : EReal := Soft.lse (sc Q K r h)

/-- The log-normalisers in eight of 128 lanes, zeros after. -/
def attLz (Q K : Arr) (r : Fin 16384) (c : Fin 128) : EReal := if h : c.val < 8 then attL Q K r ⟨c.val, h⟩ else 0

/-- Finite queries and keys make every row's scores real or −∞, the row's own key real. -/
theorem good (Q K : Arr) (hQ : ∀ i, ∃ x : ℝ, Q i = x) (hK : ∀ i, ∃ x : ℝ, K i = x) (r : Fin 16384) (h : Fin 8) :
    Soft.Good (sc Q K r h) := by
  have hs : ∀ k, ∃ x : ℝ, ∑ d : Fin 64, K (ix2 (krow r k) (lane h d)) * Q (ix2 r (lane h d)) = x := fun k =>
    Soft.sum_real _ _ fun d => by
      obtain ⟨a, ha⟩ := hK (ix2 (krow r k) (lane h d))
      obtain ⟨b, hb⟩ := hQ (ix2 r (lane h d))
      exact ⟨a * b, by rw [ha, hb, EReal.coe_mul]⟩
  refine ⟨fun k => ?_, ⟨⟨r.val % 128, by omega⟩, ?_⟩⟩
  · unfold sc
    split
    · exact .inr (hs k)
    · exact .inl rfl
  · unfold sc
    rw [if_pos (show Sees r ⟨r.val % 128, by omega⟩ from .inl le_rfl)]
    exact hs _

/-- The candidates in the order previous block, own block. -/
def rot : Fin 256 ≃ Fin 256 where
  toFun k := ⟨(k.val + 128) % 256, by omega⟩
  invFun k := ⟨(k.val + 128) % 256, by omega⟩
  left_inv k := Fin.ext (by simp only []; omega)
  right_inv k := Fin.ext (by simp only []; omega)

theorem rot_val (k : Fin 256) : (rot k).val = (k.val + 128) % 256 := rfl

end Spec
-- ==== Proof.Att.lean ====
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

/-! The arithmetic of one block of 128 rows and 128 lanes (two heads), read at an index. -/

namespace Cert.KernelIdeal.Att

open Cert.KernelIdeal Cert.KernelIdeal.Gen Idealize.ShloMosaic Idealize.ShloMosaic.TcCoe Idealize.SL.Sem

/-- The masked score's stand-in denotes −∞, by the certificate's table of named constants. -/
theorem mask_val : Named.named (F := Ideal) Cert.KernelIdeal.κ "mask" (φ := .f32) 0xF149F2CA#32 = (⊥ : EReal) :=
  IdealRules.named_const.ideal_named_scalar _ _ _ _ rfl

/-- The literal the log sum is converted with denotes log 2. -/
theorem ln2_val :
    Named.named (F := Ideal) Cert.KernelIdeal.κ "ln2" (φ := .f32) 0x3F317218#32 = ((Real.log 2 : ℝ) : EReal) :=
  IdealRules.named_const.ideal_named_scalar _ _ _ _ rfl

/-- Scores of one block of 128 queries: 256 keys by (two heads × 128 queries). -/
def SC (q kc kp : FVec Ideal S128x128 .bf16) : FVec Ideal S256x256 .f32 :=
  k0_pay12 (F := Ideal) (k0_pay7 (F := Ideal)) (k0_pay8 (F := Ideal)) q kc kp

/-- The values by lane, with sixteen rows of ones under them. -/
def VT (vc vp : FVec Ideal S128x128 .bf16) : FVec Ideal S144x256 .bf16 :=
  k0_pay13 (F := Ideal) (k0_pay9 (F := Ideal)) (k0_pay10 (F := Ideal)) vc vp

/-- Which of the 256 keys a query sees, `w` telling whether the previous block exists. -/
def VIS (w : BitVec 1) : IVec S256x256 1 :=
  ori k0_pay4 (andi k0_pay5 (broadcast S256x256 w))

/-- Weighted sums by lane, and the weights' sum in the rows below. -/
def OT (w : BitVec 1) (q kc kp vc vp : FVec Ideal S128x128 .bf16) : FVec Ideal S144x256 .f32 :=
  k0_pay801 (F := Ideal) (SC q kc kp) (VT vc vp) (VIS w)

/-- The output block. -/
def OB (w : BitVec 1) (q kc kp vc vp : FVec Ideal S128x128 .bf16) : FVec Ideal S128x128 .bf16 :=
  k0_pay825 (F := Ideal) (OT w q kc kp vc vp)

/-- The log-sum row of the two heads. -/
def LR (w : BitVec 1) (q kc kp vc vp : FVec Ideal S128x128 .bf16) : FVec Ideal S1x256 .f32 :=
  k0_pay837 (F := Ideal) (k0_pay793 (F := Ideal) (SC q kc kp) (VIS w)) (OT w q kc kp vc vp)

theorem query_val : ∀ c : Fin 256, Scalar.select
      (IntOp.andi
        (IntOp.xori
          (IntOp.cmpi CmpIPredicate.slt
            (IntOp.remsi ArithUnit.vector (BitVec.ofNat 32 c.val)
              (Scalar.select (Scalar.cmpi CmpIPredicate.eq 128#32 0#32) 1#32 128#32))
            0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 c.val)
            (Scalar.select (Scalar.cmpi CmpIPredicate.eq 128#32 0#32) 1#32 128#32))
          0#32))
      (IntOp.addi
        (IntOp.remsi ArithUnit.vector (BitVec.ofNat 32 c.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 c.val)
        (Scalar.select (Scalar.cmpi CmpIPredicate.eq 128#32 0#32) 1#32 128#32)) =
    BitVec.ofNat 32 (c.val % 128) := by decide +kernel

/-- Column `c` of the scores belongs to query `c % 128`. -/
theorem pay3_val (k c : Fin 256) : k0_pay3 (ix2 k c : S256x256.Idx) = BitVec.ofNat 32 ((c : ℕ) % 128) := by
  refine Eq.trans ?_ (query_val c)
  pointwise [k0_pay3]

theorem sle_val : ∀ (k : Fin 256) (a : Fin 128),
    IntOp.cmpi CmpIPredicate.sle (BitVec.ofNat 32 k.val) (BitVec.ofNat 32 a.val) = BitVec.ofBool (decide (k.val ≤ a.val)) := by
  decide +kernel

theorem sge_val : ∀ (k : Fin 256) (a : Fin 128),
    IntOp.cmpi CmpIPredicate.sge (IntOp.subi (BitVec.ofNat 32 k.val) 128#32) (BitVec.ofNat 32 a.val) =
      BitVec.ofBool (decide (128 + a.val ≤ k.val)) := by
  decide +kernel

/-- The mask at key `k` and column `c`. -/
theorem VIS_at (w : BitVec 1) (k c : Fin 256) : VIS w (ix2 k c : S256x256.Idx) =
    IntOp.ori (BitVec.ofBool (decide (k.val ≤ c.val % 128))) (IntOp.andi (BitVec.ofBool (decide (128 + c.val % 128 ≤ k.val))) w) := by
  have h1 := sle_val k ⟨c.val % 128, by omega⟩
  have h2 := sge_val k ⟨c.val % 128, by omega⟩
  pointwise [VIS, k0_pay4, k0_pay5, pay3_val]
  rw [← h1, ← h2]

/-- A choice by the mask is a choice by the keys the query sees. -/
theorem select_VIS (w : BitVec 1) (k c : Fin 256) (x y : EReal) :
    Scalar.select (VIS w (ix2 k c : S256x256.Idx)) x y =
      if k.val ≤ c.val % 128 ∨ (128 + c.val % 128 ≤ k.val ∧ w = 1#1) then x else y := by
  rw [VIS_at]
  have hw : w = 0#1 ∨ w = 1#1 := by revert w; decide
  by_cases h1 : k.val ≤ c.val % 128 <;> by_cases h2 : 128 + c.val % 128 ≤ k.val <;> rcases hw with rfl | rfl <;>
    simp [h1, h2, Scalar.select, IntOp.ori, IntOp.andi]

theorem word64 : Ideal.ofBits .bf16 17024#16 = ((64 : ℝ) : EReal) := by
  simp [Ideal.ofBits, Ideal.ieee, -EReal.coe_mul]; norm_num

theorem lane_int : ∀ l : Fin 128, (BitVec.ofNat 32 l.val).toInt = (l.val : ℤ) := by decide +kernel

/-- The lanes of the first head of the pair. -/
theorem lt64 (r l : Fin 128) : (k0_pay7 (F := Ideal)) (ix2 r l : S128x128.Idx) = BitVec.ofBool (decide ((l : ℕ) < 64)) := by
  pointwise [k0_pay7, k0_pay6]
  rw [word64]
  show BitVec.ofBool (decide ((((BitVec.ofNat 32 l.val).toInt : ℝ) : EReal) < ((64 : ℝ) : EReal))) = _
  rw [lane_int]
  congr 2
  rw [EReal.coe_lt_coe_iff]
  exact propext (by norm_cast)

/-- The lanes of the second head of the pair. -/
theorem ge64 (r l : Fin 128) : (k0_pay8 (F := Ideal)) (ix2 r l : S128x128.Idx) = BitVec.ofBool (decide (64 ≤ (l : ℕ))) := by
  pointwise [k0_pay8, k0_pay6]
  rw [word64]
  show BitVec.ofBool (decide (((64 : ℝ) : EReal) ≤ (((BitVec.ofNat 32 l.val).toInt : ℝ) : EReal))) = _
  rw [lane_int]
  congr 2
  rw [EReal.coe_le_coe_iff]
  exact propext (by norm_cast)

theorem eye_int : ∀ l x : Fin 128, (BitVec.setWidth 32 (IntOp.cmpi CmpIPredicate.eq (BitVec.ofNat 32 l.val) (BitVec.ofNat 32 x.val))).toInt =
    if l = x then (1 : ℤ) else 0 := by decide +kernel

/-- The identity matrix the values are transposed with. -/
theorem eye (l x : Fin 128) : FloatOps.sitofp (F := Ideal) FTy.f32
    (BitVec.setWidth 32 (IntOp.cmpi CmpIPredicate.eq (BitVec.ofNat 32 l.val) (BitVec.ofNat 32 x.val))) = if l = x then (1 : EReal) else 0 := by
  show ((((BitVec.setWidth 32 (IntOp.cmpi CmpIPredicate.eq (BitVec.ofNat 32 l.val) (BitVec.ofNat 32 x.val))).toInt : ℤ) : ℝ) : EReal) = _
  rw [eye_int]
  split <;> simp

end Cert.KernelIdeal.Att
-- ==== Proof.Core.lean ====
module

public import proofs.«01_k».proof.Proof.Att

@[expose] public section

set_option maxRecDepth 16384

noncomputable section

namespace Cert.KernelIdeal.Att

open Cert.KernelIdeal Cert.KernelIdeal.Gen Idealize.ShloMosaic Idealize.ShloMosaic.TcCoe Idealize.SL.Sem

theorem select_bit (p : Prop) [Decidable p] (x y : EReal) :
    Scalar.select (BitVec.ofBool (decide p)) x y = if p then x else y := by
  by_cases h : p <;> simp [h, Scalar.select]

/-- Two stacked blocks of 128 rows, read at a row of the stack. -/
def stack (c p : FVec Ideal S128x128 .bf16) (k : Fin 256) (x : Fin 128) : EReal :=
  if h : k.val < 128 then c (ix2 ⟨k.val, h⟩ x) else p (ix2 ⟨k.val - 128, by omega⟩ x)

/-- The score of query `a` in the pair's head `b`: the products over that head's 64 lanes. -/
theorem SC_at (q kc kp : FVec Ideal S128x128 .bf16) (k : Fin 256) (b : Fin 2) (a : Fin 128) :
    SC q kc kp (ix2 k ⟨128 * b.val + a.val, by omega⟩ : S256x256.Idx) =
      ∑ d : Fin 64, stack kc kp k ⟨64 * b.val + d.val, by omega⟩ * q (ix2 a ⟨64 * b.val + d.val, by omega⟩) := by
  pointwise [SC, k0_pay12, lt64, ge64, select_bit]
  have hb : b.val = 0 ∨ b.val = 1 := by omega
  rcases hb with hb | hb
  · have e : ∀ x : Fin 64, (⟨64 * b.val + x.val, by omega⟩ : Fin 128) = ⟨x.val, by omega⟩ := fun x => Fin.ext (by show 64 * b.val + x.val = x.val; omega)
    have hlt : 128 * b.val + a.val < 128 := by omega
    have ea : (⟨128 * b.val + a.val, hlt⟩ : Fin 128) = a := Fin.ext (by simp only []; omega)
    simp only [hlt, dif_pos, mul_zero, Finset.sum_const_zero, add_zero, e, ea]
    rfl
  · have e : ∀ x : Fin 64, (⟨64 * b.val + x.val, by omega⟩ : Fin 128) = ⟨64 + x.val, by omega⟩ := fun x => Fin.ext (by show 64 * b.val + x.val = 64 + x.val; omega)
    have hlt : ¬ 128 * b.val + a.val < 128 := by omega
    have ea : (⟨128 * b.val + a.val - 128, by omega⟩ : Fin 128) = a := Fin.ext (by simp only []; omega)
    simp only [hlt, dif_neg, not_false_eq_true, mul_zero, Finset.sum_const_zero, zero_add, e, ea]
    rfl

/-- The stacked values at lane `l` and key `k`. -/
theorem VT_at (vc vp : FVec Ideal S128x128 .bf16) (l : Fin 128) (k : Fin 256) :
    VT vc vp (ix2 ⟨l.val, by omega⟩ k : S144x256.Idx) = stack vc vp k l := by
  pointwise [VT, k0_pay13, k0_pay9, k0_pay10, eye]
  simp only [ite_mul, one_mul, zero_mul, Finset.sum_ite_eq, Finset.mem_univ, if_true]
  rfl

theorem VT_one (vc vp : FVec Ideal S128x128 .bf16) (k : Fin 256) :
    VT vc vp (ix2 128 k : S144x256.Idx) = 1 := by
  pointwise [VT, k0_pay13, k0_pay9, k0_pay10, eye]

/-- The row of masked scores of column `c`. -/
def row (w : BitVec 1) (q kc kp : FVec Ideal S128x128 .bf16) (c : Fin 256) (k : Fin 256) : EReal :=
  if k.val ≤ c.val % 128 ∨ (128 + c.val % 128 ≤ k.val ∧ w = 1#1) then SC q kc kp (ix2 k c : S256x256.Idx) else ⊥

theorem MX_at (w : BitVec 1) (q kc kp : FVec Ideal S128x128 .bf16) (c : Fin 256) :
    k0_pay793 (F := Ideal) (SC q kc kp) (VIS w) (ix2 0 c : S1x256.Idx) = Soft.top (row w q kc kp c) := by
  pointwise [k0_pay793, k0_pay792, mask_val, select_VIS]
  rfl

theorem OT_at (w : BitVec 1) (q kc kp vc vp : FVec Ideal S128x128 .bf16) (l : Fin 144) (c : Fin 256) :
    OT w q kc kp vc vp (ix2 l c : S144x256.Idx) = ∑ k : Fin 256, VT vc vp (ix2 l k : S144x256.Idx) * Soft.wt (row w q kc kp c) k := by
  pointwise [OT, k0_pay801, k0_pay792, mask_val, select_VIS, MX_at]
  rfl

theorem OB_at (w : BitVec 1) (q kc kp vc vp : FVec Ideal S128x128 .bf16) (a l : Fin 128) :
    OB w q kc kp vc vp (ix2 a l : S128x128.Idx) =
      Soft.out (row w q kc kp ⟨128 * (l.val / 64) + a.val, by omega⟩) (fun k => stack vc vp k l) := by
  pointwise [OB, k0_pay825, k0_pay823, OT_at, VT_one]
  by_cases h : l.val < 64
  · have ec : (⟨128 * (l.val / 64) + a.val, by omega⟩ : Fin 256) = ⟨a.val, by omega⟩ := Fin.ext (by show 128 * (l.val / 64) + a.val = a.val; omega)
    rw [dif_pos h, ec]
    simp only [VT_at]
    rfl
  · have ec : (⟨128 * (l.val / 64) + a.val, by omega⟩ : Fin 256) = ⟨128 + a.val, by omega⟩ := Fin.ext (by show 128 * (l.val / 64) + a.val = 128 + a.val; omega)
    have el : (⟨64 + (l.val - 64), by omega⟩ : Fin 144) = ⟨l.val, by omega⟩ := Fin.ext (by show 64 + (l.val - 64) = l.val; omega)
    rw [dif_neg h, ec, el]
    simp only [VT_at]
    rfl

theorem LR_at (w : BitVec 1) (q kc kp vc vp : FVec Ideal S128x128 .bf16) (c : Fin 256) :
    LR w q kc kp vc vp (ix2 0 c : S1x256.Idx) = Soft.lse (row w q kc kp c) := by
  pointwise [LR, k0_pay837, k0_pay836, ln2_val, MX_at, OT_at, VT_one]
  rfl

end Cert.KernelIdeal.Att
-- ==== Proof.Blk.lean ====
module

public import proofs.«01_k».proof.Proof.Core
public import proofs.«01_k».proof.Proof.Gen.KernelIdeal.Frame

@[expose] public section

set_option maxRecDepth 16384

noncomputable section

/-! One grid step: 2048 rows in 16 blocks of 128, and 512 lanes in 4 pairs of heads. Every store of a step is the one
    computation of `Core`, at the offsets its rectangle names. -/

namespace Cert.KernelIdeal.Att

open Cert.KernelIdeal Cert.KernelIdeal.Gen Idealize.ShloMosaic Idealize.ShloMosaic.TcCoe Idealize.SL.Sem

/-- Lane `c` of candidate key `k` of row `y` of the step: in the step's rows, or for the step's first block in the block before. -/
def kst (cur : FVec Ideal S2048x512 .bf16) (prev : FVec Ideal S128x512 .bf16) (y : Fin 2048) (c : Fin 512) (k : Fin 256) : EReal :=
  if h : k.val < 128 then cur (ix2 ⟨128 * (y.val / 128) + k.val, by omega⟩ c)
  else if y.val < 128 then prev (ix2 ⟨k.val - 128, by omega⟩ c)
  else cur (ix2 ⟨128 * (y.val / 128) - 128 + (k.val - 128), by omega⟩ c)

/-- Lane `d` of head `h`. -/
def ln (h : Fin 8) (d : Fin 64) : Fin 512 := ⟨h.val * 64 + d.val, by omega⟩

/-- The masked scores of row `y` of the step in head `h`. -/
def brow (w : BitVec 1) (x0 x1 : FVec Ideal S2048x512 .bf16) (x2 : FVec Ideal S128x512 .bf16) (y : Fin 2048) (h : Fin 8) (k : Fin 256) : EReal :=
  if k.val ≤ y.val % 128 ∨ (128 + y.val % 128 ≤ k.val ∧ (128 ≤ y.val ∨ w = 1#1)) then
    ∑ d : Fin 64, kst x1 x2 y (ln h d) k * x0 (ix2 y (ln h d)) else ⊥

/-- The step's output. -/
def GO (w : BitVec 1) (x0 x1 : FVec Ideal S2048x512 .bf16) (x2 : FVec Ideal S128x512 .bf16) (x3 : FVec Ideal S2048x512 .bf16)
    (x4 : FVec Ideal S128x512 .bf16) (y : S2048x512.Idx) : EReal :=
  Soft.out (brow w x0 x1 x2 (y 0) ⟨(y 1 : Fin 512).val / 64, by have h : (y 1 : Fin 512).val < 512 := (y 1).isLt; omega⟩) (kst x3 x4 (y 0) (y 1))

/-- What a block's loads are, lane by lane: queries, keys and values of the rows from `o` and the lanes from `p`. -/
structure Loads (w w' : BitVec 1) (x0 x1 : FVec Ideal S2048x512 .bf16) (x2 : FVec Ideal S128x512 .bf16) (o p : ℕ) (q kc kp : FVec Ideal S128x128 .bf16) : Prop where
  ho : o % 128 = 0 ∧ o + 128 ≤ 2048
  hp : p % 128 = 0 ∧ p + 128 ≤ 512
  hw : w' = 1#1 ↔ (128 ≤ o ∨ w = 1#1)
  hq : ∀ a d : Fin 128, q (ix2 a d) = x0 (ix2 ⟨o + a.val, by omega⟩ ⟨p + d.val, by omega⟩)
  hc : ∀ a d : Fin 128, kc (ix2 a d) = x1 (ix2 ⟨o + a.val, by omega⟩ ⟨p + d.val, by omega⟩)
  hk : ∀ a d : Fin 128, kp (ix2 a d) = kst x1 x2 ⟨o, by omega⟩ ⟨p + d.val, by omega⟩ ⟨128 + a.val, by omega⟩

theorem stack_eq {x1 : FVec Ideal S2048x512 .bf16} {x2 : FVec Ideal S128x512 .bf16} {o p : ℕ} {kc kp : FVec Ideal S128x128 .bf16}
    (ho : o % 128 = 0 ∧ o + 128 ≤ 2048) (hp : p % 128 = 0 ∧ p + 128 ≤ 512)
    (hc : ∀ a d : Fin 128, kc (ix2 a d) = x1 (ix2 ⟨o + a.val, by omega⟩ ⟨p + d.val, by omega⟩))
    (hk : ∀ a d : Fin 128, kp (ix2 a d) = kst x1 x2 ⟨o, by omega⟩ ⟨p + d.val, by omega⟩ ⟨128 + a.val, by omega⟩)
    (a l : Fin 128) (k : Fin 256) (y : Fin 2048) (c : Fin 512) (hy : y.val = o + a.val) (hl : c.val = p + l.val) :
    stack kc kp k l = kst x1 x2 y c k := by
  obtain ⟨y, hlt⟩ := y
  simp only at hy
  subst hy
  obtain ⟨c, hlc⟩ := c
  simp only at hl
  subst hl
  unfold stack kst
  have e : 128 * ((o + a.val) / 128) = o := by omega
  have e' : 128 * (o / 128) = o := by omega
  by_cases h : k.val < 128
  · simp only [dif_pos h, e, hc]
  · have hk' : ¬ 128 + (k.val - 128) < 128 := by omega
    simp only [dif_neg h, hk]
    unfold kst
    simp only [dif_neg hk', e, e', Nat.add_sub_cancel_left]
    by_cases h0 : o < 128
    · have : o + a.val < 128 := by omega
      simp only [if_pos h0, if_pos this]
    · have : ¬ o + a.val < 128 := by omega
      simp only [if_neg h0, if_neg this]

theorem row_eq {w w' : BitVec 1} {x0 x1 : FVec Ideal S2048x512 .bf16} {x2 : FVec Ideal S128x512 .bf16} {o p : ℕ} {q kc kp : FVec Ideal S128x128 .bf16}
    (L : Loads w w' x0 x1 x2 o p q kc kp) (a : Fin 128) (b : Fin 2) (y : Fin 2048) (h : Fin 8)
    (hy : y.val = o + a.val) (hh : h.val * 64 = p + 64 * b.val) :
    row w' q kc kp ⟨128 * b.val + a.val, by omega⟩ = brow w x0 x1 x2 y h := by
  have hp := L.hp
  have ho := L.ho
  obtain ⟨y, hlt⟩ := y
  simp only at hy
  subst hy
  funext k
  unfold row brow
  have e : (128 * b.val + a.val) % 128 = a.val := by omega
  have e' : (o + a.val) % 128 = a.val := by omega
  have e2 : (128 ≤ o + a.val ∨ w = 1#1) ↔ w' = 1#1 := by
    rw [L.hw]
    have : 128 ≤ o + a.val ↔ 128 ≤ o := by omega
    rw [this]
  simp only [e, e', e2, SC_at]
  congr 1
  refine Finset.sum_congr rfl fun d _ => ?_
  rw [stack_eq ho hp L.hc L.hk a ⟨64 * b.val + d.val, by omega⟩ k ⟨o + a.val, by omega⟩ (ln h d) rfl (by show h.val * 64 + d.val = p + (64 * b.val + d.val); omega), L.hq]
  congr 3
  exact Fin.ext (by show p + (64 * b.val + d.val) = h.val * 64 + d.val; omega)

/-- The output block of one store. -/
theorem pieceO {w w' : BitVec 1} {x0 x1 : FVec Ideal S2048x512 .bf16} {x2 : FVec Ideal S128x512 .bf16} {x3 : FVec Ideal S2048x512 .bf16}
    {x4 : FVec Ideal S128x512 .bf16} {o p : ℕ} {q kc kp vc vp : FVec Ideal S128x128 .bf16}
    (L : Loads w w' x0 x1 x2 o p q kc kp) (L' : Loads w w' x0 x3 x4 o p q vc vp) (z : S128x128.Idx) (y : S2048x512.Idx)
    (h0 : (y 0 : Fin 2048).val = o + (z 0 : Fin 128).val) (h1 : (y 1 : Fin 512).val = p + (z 1 : Fin 128).val) :
    OB w' q kc kp vc vp z = GO w x0 x1 x2 x3 x4 y := by
  have hp := L.hp
  have ho := L.ho
  idx_vars z
  idx_vars y
  replace h0 : y0.val = o + z0.val := h0
  replace h1 : y1.val = p + z1.val := h1
  rw [OB_at]
  show _ = Soft.out (brow w x0 x1 x2 y0 ⟨y1.val / 64, by omega⟩) (kst x3 x4 y0 y1)
  congr 1
  · exact row_eq L z0 ⟨z1.val / 64, by omega⟩ y0 ⟨y1.val / 64, by omega⟩ h0 (by show y1.val / 64 * 64 = p + 64 * (z1.val / 64); omega)
  · funext k
    exact stack_eq ho hp L'.hc L'.hk z0 z1 k y0 y1 h0 h1

/-- The loads of a block that is not the step's first. -/
theorem loads_next (w : BitVec 1) (x0 x1 : FVec Ideal S2048x512 .bf16) (x2 : FVec Ideal S128x512 .bf16) (o o' p : ℕ)
    (ho : o % 128 = 0 ∧ o + 128 ≤ 2048) (hp : p % 128 = 0 ∧ p + 128 ≤ 512) (ho' : o = o' + 128)
    (i1 : ∀ a, (![o, p] : Fin 2 → ℕ) a + S128x128.size a ≤ S2048x512.size a)
    (i2 : ∀ a, (![o', p] : Fin 2 → ℕ) a + S128x128.size a ≤ S2048x512.size a) :
    Loads w 1#1 x0 x1 x2 o p (View.ld (Val := Elt Ideal) (e' := .bf16) x0 (Rect.unit (s := S2048x512) ![o, p] S128x128.size i1))
      (View.ld (Val := Elt Ideal) (e' := .bf16) x1 (Rect.unit (s := S2048x512) ![o, p] S128x128.size i1))
      (View.ld (Val := Elt Ideal) (e' := .bf16) x1 (Rect.unit (s := S2048x512) ![o', p] S128x128.size i2)) where
  ho := ho
  hp := hp
  hw := by simp; omega
  hq := fun a d => by pointwise
  hc := fun a d => by pointwise
  hk := fun a d => by
    pointwise [kst]
    rw [if_neg (by omega)]
    congr 2
    exact Fin.ext (by show o' + a.val = 128 * (o / 128) - 128 + a.val; omega)

/-- The loads of the step's first block. -/
theorem loads_first (w : BitVec 1) (x0 x1 : FVec Ideal S2048x512 .bf16) (x2 : FVec Ideal S128x512 .bf16) (p : ℕ)
    (hp : p % 128 = 0 ∧ p + 128 ≤ 512)
    (i1 : ∀ a, (![0, p] : Fin 2 → ℕ) a + S128x128.size a ≤ S2048x512.size a)
    (i2 : ∀ a, (![0, p] : Fin 2 → ℕ) a + S128x128.size a ≤ S128x512.size a) :
    Loads w w x0 x1 x2 0 p (View.ld (Val := Elt Ideal) (e' := .bf16) x0 (Rect.unit (s := S2048x512) ![0, p] S128x128.size i1))
      (View.ld (Val := Elt Ideal) (e' := .bf16) x1 (Rect.unit (s := S2048x512) ![0, p] S128x128.size i1))
      (View.ld (Val := Elt Ideal) (e' := .bf16) x2 (Rect.unit (s := S128x512) ![0, p] S128x128.size i2)) where
  ho := by omega
  hp := hp
  hw := by simp
  hq := fun a d => by pointwise
  hc := fun a d => by pointwise
  hk := fun a d => by pointwise [kst]

/-- Row `k` of the eight log-sum rows set to the first head's half of `lr`. -/
def put0 (k : BitVec 32) (lr : FVec Ideal S1x256 .f32) (prev : FVec Ideal S8x128 .f32) : FVec Ideal S8x128 .f32 :=
  select (cmpi .eq (iota .tc S8x128 32 [0] iota_S8x128_d0_w32) (broadcast S8x128 k))
    (broadcastTo S8x128 (shapeCast S1x128 (extractStridedSlice S1x128 ![0, 0] lr slices_S1x256_o0_0_S1x128) shapeCasts_S1x128_S1x128)
      broadcasts_S1x128_S8x128) prev

/-- Row `k` of the eight log-sum rows set to the second head's half of `lr`. -/
def put1 (k : BitVec 32) (lr : FVec Ideal S1x256 .f32) (prev : FVec Ideal S8x128 .f32) : FVec Ideal S8x128 .f32 :=
  select (cmpi .eq (iota .tc S8x128 32 [0] iota_S8x128_d0_w32) (broadcast S8x128 k))
    (broadcastTo S8x128 (shapeCast S1x128 (extractStridedSlice S1x128 ![0, 128] lr slices_S1x256_o0_128_S1x128) shapeCasts_S1x128_S1x128)
      broadcasts_S1x128_S8x128) prev

/-- The log-sum block of 128 rows: eight lanes of log-sums out of the four pairs' rows, zeros after. -/
def LB (l0 l1 l2 l3 : FVec Ideal S1x256 .f32) : FVec Ideal S128x128 .f32 :=
  transpose S128x128 [1, 0] (concatenate S128x128 0 [⟨S8x128,
    put1 7#32 l3 (put0 6#32 l3 (put1 5#32 l2 (put0 4#32 l2 (put1 3#32 l1 (put0 2#32 l1 (put1 1#32 l0 (put0 0#32 l0
      (broadcast S8x128 (Scalar.ofBits .f32 0x00000000#32 : Ideal .f32)))))))))⟩, ⟨S120x128, k0_pay11 (F := Ideal)⟩]
    concatenates_S8x128_S120x128_S128x128_d0) transposes_S128x128_p1_0_S128x128

/-- The four pairs' rows by pair. -/
def pick (l0 l1 l2 l3 : FVec Ideal S1x256 .f32) (s : ℕ) : FVec Ideal S1x256 .f32 :=
  if s = 0 then l0 else if s = 1 then l1 else if s = 2 then l2 else l3

theorem LB_at (l0 l1 l2 l3 : FVec Ideal S1x256 .f32) (a c : Fin 128) : LB l0 l1 l2 l3 (ix2 a c : S128x128.Idx) =
    if c.val < 8 then pick l0 l1 l2 l3 (c.val / 2) (ix2 0 ⟨128 * (c.val % 2) + a.val, by omega⟩ : S1x256.Idx) else (0 : EReal) := by
  pointwise [LB, put0, put1, k0_pay11]
  by_cases h : c.val < 8
  · rw [dif_pos h, if_pos h]
    have hc : c.val = 0 ∨ c.val = 1 ∨ c.val = 2 ∨ c.val = 3 ∨ c.val = 4 ∨ c.val = 5 ∨ c.val = 6 ∨ c.val = 7 := by omega
    rcases hc with hc | hc | hc | hc | hc | hc | hc | hc <;> simp [hc, IntOp.cmpi, Scalar.select, pick]
  · rw [dif_neg h, if_neg h]

/-- The step's log-sums. -/
def GS (w : BitVec 1) (x0 x1 : FVec Ideal S2048x512 .bf16) (x2 : FVec Ideal S128x512 .bf16) (y : S2048x128.Idx) : EReal :=
  if h : (y 1 : Fin 128).val < 8 then Soft.lse (brow w x0 x1 x2 (y 0) ⟨(y 1 : Fin 128).val, h⟩) else 0

/-- The log-sum block of one store. -/
theorem pieceL {w w' : BitVec 1} {x0 x1 : FVec Ideal S2048x512 .bf16} {x2 : FVec Ideal S128x512 .bf16} {o : ℕ}
    {q0 q1 q2 q3 c0 c1 c2 c3 p0 p1 p2 p3 u0 u1 u2 u3 v0 v1 v2 v3 : FVec Ideal S128x128 .bf16}
    (L0 : Loads w w' x0 x1 x2 o 0 q0 c0 p0) (L1 : Loads w w' x0 x1 x2 o 128 q1 c1 p1) (L2 : Loads w w' x0 x1 x2 o 256 q2 c2 p2)
    (L3 : Loads w w' x0 x1 x2 o 384 q3 c3 p3) (z : S128x128.Idx) (y : S2048x128.Idx)
    (h0 : (y 0 : Fin 2048).val = o + (z 0 : Fin 128).val) (h1 : (y 1 : Fin 128).val = (z 1 : Fin 128).val) :
    LB (LR w' q0 c0 p0 u0 v0) (LR w' q1 c1 p1 u1 v1) (LR w' q2 c2 p2 u2 v2) (LR w' q3 c3 p3 u3 v3) z = GS w x0 x1 x2 y := by
  idx_vars z
  idx_vars y
  replace h0 : y0.val = o + z0.val := h0
  replace h1 : y1.val = z1.val := h1
  have hz1 : z1 = y1 := Fin.ext h1.symm
  subst hz1
  rw [LB_at]
  show _ = if h : z1.val < 8 then Soft.lse (brow w x0 x1 x2 y0 ⟨z1.val, h⟩) else 0
  by_cases h : z1.val < 8
  · rw [if_pos h, dif_pos h]
    have hs : z1.val / 2 = 0 ∨ z1.val / 2 = 1 ∨ z1.val / 2 = 2 ∨ z1.val / 2 = 3 := by omega
    rcases hs with hs | hs | hs | hs
    · rw [hs, pick, if_pos rfl, LR_at, row_eq L0 z0 ⟨z1.val % 2, by omega⟩ y0 ⟨z1.val, h⟩ h0 (by show z1.val * 64 = 0 + 64 * (z1.val % 2); omega)]
    · rw [hs, pick, if_neg (by decide), if_pos rfl, LR_at, row_eq L1 z0 ⟨z1.val % 2, by omega⟩ y0 ⟨z1.val, h⟩ h0 (by show z1.val * 64 = 128 + 64 * (z1.val % 2); omega)]
    · rw [hs, pick, if_neg (by decide), if_neg (by decide), if_pos rfl, LR_at, row_eq L2 z0 ⟨z1.val % 2, by omega⟩ y0 ⟨z1.val, h⟩ h0 (by show z1.val * 64 = 256 + 64 * (z1.val % 2); omega)]
    · rw [hs, pick, if_neg (by decide), if_neg (by decide), if_neg (by decide), LR_at, row_eq L3 z0 ⟨z1.val % 2, by omega⟩ y0 ⟨z1.val, h⟩ h0 (by show z1.val * 64 = 384 + 64 * (z1.val % 2); omega)]
  · rw [if_neg h, dif_neg h]

end Cert.KernelIdeal.Att
-- ==== Proof.Outs.lean ====
module

public import proofs.«01_k».proof.Proof.Blk

@[expose] public section

set_option maxRecDepth 65536

noncomputable section

namespace Cert.KernelIdeal.Att

open Cert.KernelIdeal Cert.KernelIdeal.Gen Idealize.ShloMosaic Idealize.ShloMosaic.TcCoe Idealize.SL.Sem

/-- Whether the step has rows before it in its sequence. -/
def hasPrev (i : grid0.Coords) : BitVec 1 := Scalar.cmpi .sgt (BitVec.ofNat 32 (i 1).val) 0#32

set_option maxHeartbeats 8000000 in
theorem out9 (i : grid0.Coords) (x0 x1 : Vec Ideal S2048x512 .bf16) (x2 : Vec Ideal S128x512 .bf16) (x3 : Vec Ideal S2048x512 .bf16)
    (x4 : Vec Ideal S128x512 .bf16) (x5 : Vec Ideal S4x8x512 .f32) (x6 x7 : Vec Ideal S512x128 .f32) (x8 : Vec Ideal S4x2x8x64x128 .f32) (y : S2048x512.Idx) :
    out0_9 (F := Ideal) i x0 x1 x2 x3 x4 x5 x6 x7 x8 y = GO (hasPrev i) x0 x1 x2 x3 x4 y := by
  unfold out0_9
  canon_tiles x h
  case piece60 | piece61 | piece62 | piece63 =>
    refine pieceO (w := hasPrev i) (w' := hasPrev i) (loads_first _ _ _ _ _ ?_ _ _) (loads_first _ _ _ _ _ ?_ _ _) x y ?_ ?_ <;> omega
  all_goals
    refine pieceO (w := hasPrev i) (w' := 1#1) (loads_next _ _ _ _ _ _ _ ?_ ?_ ?_ _ _) (loads_next _ _ _ _ _ _ _ ?_ ?_ ?_ _ _) x y ?_ ?_ <;> omega

end Cert.KernelIdeal.Att
-- ==== Proof.Lses.lean ====
module

public import proofs.«01_k».proof.Proof.Outs

@[expose] public section

set_option maxRecDepth 1000000

noncomputable section

namespace Cert.KernelIdeal.Att

open Cert.KernelIdeal Cert.KernelIdeal.Gen Idealize.ShloMosaic Idealize.ShloMosaic.TcCoe Idealize.SL.Sem

set_option maxHeartbeats 8000000 in
theorem out10 (i : grid0.Coords) (x0 x1 : Vec Ideal S2048x512 .bf16) (x2 : Vec Ideal S128x512 .bf16) (x3 : Vec Ideal S2048x512 .bf16)
    (x4 : Vec Ideal S128x512 .bf16) (x5 : Vec Ideal S4x8x512 .f32) (x6 x7 : Vec Ideal S512x128 .f32) (x8 : Vec Ideal S4x2x8x64x128 .f32) (y : S2048x128.Idx) :
    out0_10 (F := Ideal) i x0 x1 x2 x3 x4 x5 x6 x7 x8 y = GS (hasPrev i) x0 x1 x2 y := by
  unfold out0_10
  canon_tiles x h
  case piece15 =>
    refine pieceL (w := hasPrev i) (w' := hasPrev i) (loads_first _ _ _ _ _ ?_ _ _) (loads_first _ _ _ _ _ ?_ _ _) (loads_first _ _ _ _ _ ?_ _ _)
      (loads_first _ _ _ _ _ ?_ _ _) x y ?_ ?_ <;> omega
  all_goals
    refine pieceL (w := hasPrev i) (w' := 1#1) (loads_next _ _ _ _ _ _ _ ?_ ?_ ?_ _ _) (loads_next _ _ _ _ _ _ _ ?_ ?_ ?_ _ _)
      (loads_next _ _ _ _ _ _ _ ?_ ?_ ?_ _ _) (loads_next _ _ _ _ _ _ _ ?_ ?_ ?_ _ _) x y ?_ ?_ <;> omega

end Cert.KernelIdeal.Att
-- ==== Proof.Final.lean ====
module

public import proofs.«01_k».proof.Proof.Lses
public import Idealize.ShloMosaic.Lib.Pipeline.ValueKit

@[expose] public section

set_option maxRecDepth 16384

noncomputable section

/-! The kernel's two arrays after its run: every step's block is the attention of its own rows. -/

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The queries. -/
abbrev Q (c : Dev nD) : Spec.Arr := m ((c : Thread nD τ).loc main_arg0)
/-- The keys. -/
abbrev K (c : Dev nD) : Spec.Arr := m ((c : Thread nD τ).loc main_arg1)
/-- The values. -/
abbrev W (c : Dev nD) : Spec.Arr := m ((c : Thread nD τ).loc main_arg2)

theorem idx : ∀ t : Fin cfg0.N, win0_0.index t = ![t.val, 0] ∧ win0_1.index t = ![t.val, 0] ∧ win0_2.index t = ![16 * t.val - 1, 0]
    ∧ win0_3.index t = ![t.val, 0] ∧ win0_4.index t = ![16 * t.val - 1, 0] ∧ win0_9.index t = ![t.val, 0] ∧ win0_10.index t = ![t.val, 0] :=
  (by decide +kernel : ∀ t : Fin grid0.N, _)

theorem hasPrev_iff : ∀ t : Fin cfg0.N, (hasPrev (grid0.coords t) = 1#1 ↔ t.val % 2 = 1) :=
  (by decide +kernel : ∀ t : Fin grid0.N, _)

theorem lt8 (t : Fin cfg0.N) : t.val < 8 := t.isLt

/-- The array row of row `y` of step `t`. -/
def at_ (t : Fin cfg0.N) (y : Fin 2048) : Fin 16384 := ⟨t.val * 2048 + y.val, by have := lt8 t; omega⟩

theorem blk_q (c : Dev nD) (t : Fin cfg0.N) (y : Fin 2048) (l : Fin 512) :
    (iblk m c 0 t : FVec Ideal S2048x512 .bf16) (ix2 y l) = Q m c (ix2 (at_ t y) l) := by
  have := lt8 t
  blk_ext [iblk, V, idx t, at_]

theorem blk_k (c : Dev nD) (t : Fin cfg0.N) (y : Fin 2048) (l : Fin 512) :
    (iblk m c 1 t : FVec Ideal S2048x512 .bf16) (ix2 y l) = K m c (ix2 (at_ t y) l) := by
  have := lt8 t
  blk_ext [iblk, V, idx t, at_]

theorem blk_v (c : Dev nD) (t : Fin cfg0.N) (y : Fin 2048) (l : Fin 512) :
    (iblk m c 3 t : FVec Ideal S2048x512 .bf16) (ix2 y l) = W m c (ix2 (at_ t y) l) := by
  have := lt8 t
  blk_ext [iblk, V, idx t, at_]

/-- The array row of row `y` of the block before step `t`. -/
def before_ (t : Fin cfg0.N) (y : Fin 128) : Fin 16384 := ⟨(16 * t.val - 1) * 128 + y.val, by have := lt8 t; omega⟩

theorem blk_kp (c : Dev nD) (t : Fin cfg0.N) (y : Fin 128) (l : Fin 512) :
    (iblk m c 2 t : FVec Ideal S128x512 .bf16) (ix2 y l) = K m c (ix2 (before_ t y) l) := by
  have := lt8 t
  blk_ext [iblk, V, idx t, before_]

theorem blk_vp (c : Dev nD) (t : Fin cfg0.N) (y : Fin 128) (l : Fin 512) :
    (iblk m c 4 t : FVec Ideal S128x512 .bf16) (ix2 y l) = W m c (ix2 (before_ t y) l) := by
  have := lt8 t
  blk_ext [iblk, V, idx t, before_]

/-- A candidate key or value of a step's row is the array's. -/
theorem kst_eq (A : Spec.Arr) (t : Fin cfg0.N) (cur : FVec Ideal S2048x512 .bf16) (prev : FVec Ideal S128x512 .bf16)
    (h : ∀ y l, cur (ix2 y l) = A (ix2 (at_ t y) l)) (h' : ∀ y l, prev (ix2 y l) = A (ix2 (before_ t y) l))
    (y : Fin 2048) (c : Fin 512) (k : Fin 256) : kst cur prev y c k = A (ix2 (Spec.krow (at_ t y) k) c) := by
  have ht := lt8 t
  unfold kst
  by_cases hk : k.val < 128
  · rw [dif_pos hk, h]
    congr 2
    exact Fin.ext (by simp only [at_, Spec.krow, if_pos hk]; omega)
  · rw [dif_neg hk]
    by_cases hy : y.val < 128
    · rw [if_pos hy, h']
      congr 2
      exact Fin.ext (by simp only [at_, before_, Spec.krow, if_neg hk]; omega)
    · rw [if_neg hy, h]
      congr 2
      exact Fin.ext (by simp only [at_, Spec.krow, if_neg hk]; omega)

theorem brow_eq (c : Dev nD) (t : Fin cfg0.N) (y : Fin 2048) (h : Fin 8) :
    brow (hasPrev (grid0.coords t)) (iblk m c 0 t) (iblk m c 1 t) (iblk m c 2 t) y h = Spec.sc (Q m c) (K m c) (at_ t y) h := by
  have ht := lt8 t
  funext k
  unfold brow Spec.sc
  have e : (k.val ≤ y.val % 128 ∨ (128 + y.val % 128 ≤ k.val ∧ (128 ≤ y.val ∨ hasPrev (grid0.coords t) = 1#1))) ↔ Spec.Sees (at_ t y) k := by
    rw [hasPrev_iff]
    simp only [Spec.Sees, at_]
    omega
  simp only [e]
  congr 1
  refine Finset.sum_congr rfl fun d _ => ?_
  rw [kst_eq (K m c) t _ _ (blk_k m c t) (blk_kp m c t), blk_q]
  rfl

/-- A step's output block is the attention of its rows. -/
theorem point9 (c : Dev nD) (t : Fin cfg0.N) (y : S2048x512.Idx) :
    GO (hasPrev (grid0.coords t)) (iblk m c 0 t) (iblk m c 1 t) (iblk m c 2 t) (iblk m c 3 t) (iblk m c 4 t) y
      = Spec.attO (Q m c) (K m c) (W m c) (at_ t (y 0)) (y 1) := by
  show Soft.out (brow _ _ _ _ (y 0) _) (kst _ _ (y 0) (y 1)) = Soft.out _ _
  exact congr (congrArg Soft.out (brow_eq m c t (y 0) _)) (funext fun k => kst_eq (W m c) t _ _ (blk_v m c t) (blk_vp m c t) (y 0) (y 1) k)

/-- A step's log-sum block is its rows' log-normalisers. -/
theorem point10 (c : Dev nD) (t : Fin cfg0.N) (y : S2048x128.Idx) :
    GS (hasPrev (grid0.coords t)) (iblk m c 0 t) (iblk m c 1 t) (iblk m c 2 t) y = Spec.attLz (Q m c) (K m c) (at_ t (y 0)) (y 1) := by
  idx_vars y
  show (if h : y1.val < 8 then Soft.lse (brow _ _ _ _ y0 ⟨y1.val, h⟩) else 0) = if h : y1.val < 8 then Soft.lse _ else 0
  by_cases h : y1.val < 8
  · rw [dif_pos h, dif_pos h]
    exact congrArg Soft.lse (brow_eq m c t y0 _)
  · rw [dif_neg h, dif_neg h]

/-- The output's array. -/
theorem final9 (c : Dev nD) : (dats m 0 c).arrAt 9 (cfgs 0).N
    = fun i : S16384x512.Idx => Spec.attO (Q m c) (K m c) (W m c) (i 0) (i 1) := by
  refine (dats m 0 c).arrAt_eq_of_covers 9 _ (by decide +kernel) fun t _ y => ?_
  blk_simp
  rw [after0_9]
  refine (out9 _ _ _ _ _ _ _ _ _ _ y).trans ((point9 m c t y).trans ?_)
  have e0 : (win0_9.blk t).view.emb y 0 = at_ t (y 0) := Fin.ext (by blk_simp [idx t, at_])
  have e1 : (win0_9.blk t).view.emb y 1 = y 1 := Fin.ext (by blk_simp [idx t])
  rw [e0, e1]

/-- The log-sums' array. -/
theorem final10 (c : Dev nD) : (dats m 0 c).arrAt 10 (cfgs 0).N
    = fun i : S16384x128.Idx => Spec.attLz (Q m c) (K m c) (i 0) (i 1) := by
  refine (dats m 0 c).arrAt_eq_of_covers 10 _ (by decide +kernel) fun t _ y => ?_
  blk_simp
  rw [after0_10]
  refine (out10 _ _ _ _ _ _ _ _ _ _ y).trans ((point10 m c t y).trans ?_)
  have e0 : (win0_10.blk t).view.emb y 0 = at_ t (y 0) := Fin.ext (by blk_simp [idx t, at_])
  have e1 : (win0_10.blk t).view.emb y 1 = y 1 := Fin.ext (by blk_simp [idx t])
  rw [e0, e1]

end Cert.KernelIdeal.Att
-- ==== Proof.Ref1.lean ====
module

public import proofs.«01_k».proof.Proof.Gen.ReferenceIdeal.Read
public import proofs.«01_k».proof.Proof.Spec

@[expose] public section

set_option maxRecDepth 16384

noncomputable section

/-! The reference's own arrays, read at their indices: sequence `b`, block `n`, row `i` of the block, head `h`, lane `d`. -/

namespace Cert.ReferenceIdeal.Att

open Cert.ReferenceIdeal Cert.ReferenceIdeal.Read Idealize.ShloMosaic Idealize.ShloMosaic.TcCoe Idealize.SL.Sem

/-- Row `i` of block `n` of sequence `b`. -/
def at_ (b : Fin 4) (n : Fin 32) (i : Fin 128) : Fin 16384 := ⟨b.val * 4096 + (n.val * 128 + i.val), by omega⟩

theorem q_at (x : FVec Ideal S16384x512 .bf16) (b : Fin 4) (n : Fin 32) (i : Fin 128) (h : Fin 8) (d : Fin 64) :
    val_main_v6 (F := Ideal) x (ix6 b 0 n i h d : S4x1x32x128x8x64.Idx) = x (ix2 (at_ b n i) (Spec.lane h d)) := by
  pointwise [val_main_v6, val_main_v5, val_main_v4, val_main_v3, val_main_v0]
  rfl

theorem k_at (x : FVec Ideal S16384x512 .bf16) (b : Fin 4) (n : Fin 32) (i : Fin 256) (h : Fin 8) (d : Fin 64)
    (hs : 0 < n.val ∨ 128 ≤ i.val) :
    val_main_v13 (F := Ideal) x (ix6 b 0 n i h d : S4x1x32x256x8x64.Idx)
      = x (ix2 ⟨b.val * 4096 + (n.val * 128 + i.val) - 128, by omega⟩ (Spec.lane h d)) := by
  pointwise [val_main_v13, val_main_v12, val_main_v11, val_main_v10, val_main_v9, val_main_v8, val_main_v7, val_main_v1]
  by_cases h1 : i.val < 128
  · rw [dif_pos h1, dif_pos ⟨⟨by omega, by omega⟩, h1⟩]
    congr 2
    exact Fin.ext (by show b.val * 4096 + ((n.val - 1) * 128 + i.val) = b.val * 4096 + (n.val * 128 + i.val) - 128; omega)
  · rw [dif_neg h1]
    congr 2
    exact Fin.ext (by show b.val * 4096 + (n.val * 128 + (i.val - 128)) = b.val * 4096 + (n.val * 128 + i.val) - 128; omega)

theorem v_at (x : FVec Ideal S16384x512 .bf16) (b : Fin 4) (n : Fin 32) (i : Fin 256) (h : Fin 8) (d : Fin 64)
    (hs : 0 < n.val ∨ 128 ≤ i.val) :
    val_main_v20 (F := Ideal) x (ix6 b 0 n i h d : S4x1x32x256x8x64.Idx)
      = x (ix2 ⟨b.val * 4096 + (n.val * 128 + i.val) - 128, by omega⟩ (Spec.lane h d)) := by
  pointwise [val_main_v20, val_main_v19, val_main_v18, val_main_v17, val_main_v16, val_main_v15, val_main_v14, val_main_v2]
  by_cases h1 : i.val < 128
  · rw [dif_pos h1, dif_pos ⟨⟨by omega, by omega⟩, h1⟩]
    congr 2
    exact Fin.ext (by show b.val * 4096 + ((n.val - 1) * 128 + i.val) = b.val * 4096 + (n.val * 128 + i.val) - 128; omega)
  · rw [dif_neg h1]
    congr 2
    exact Fin.ext (by show b.val * 4096 + (n.val * 128 + (i.val - 128)) = b.val * 4096 + (n.val * 128 + i.val) - 128; omega)

theorem ge_val : ∀ (i : Fin 128) (k : Fin 256), IntOp.cmpi .sge (IntOp.subi (IntOp.addi 128#32 (BitVec.ofNat 32 i.val)) (BitVec.ofNat 32 k.val)) 0#32
    = if k.val ≤ 128 + i.val then 1#1 else 0#1 := by decide +kernel

theorem le_val : ∀ (i : Fin 128) (k : Fin 256), IntOp.cmpi .sle (IntOp.subi (IntOp.addi 128#32 (BitVec.ofNat 32 i.val)) (BitVec.ofNat 32 k.val)) 128#32
    = if i.val ≤ k.val then 1#1 else 0#1 := by decide +kernel

theorem blk_val : ∀ n : Fin 32, IntOp.cmpi .sgt (BitVec.ofNat 32 n.val) 0#32 = if 0 < n.val then 1#1 else 0#1 := by decide +kernel

theorem own_val : ∀ k : Fin 256, IntOp.cmpi .sge (BitVec.ofNat 32 k.val) 128#32 = if 128 ≤ k.val then 1#1 else 0#1 := by decide +kernel

/-- The mask is one at the keys a row sees. -/
theorem vis_at (n : Fin 32) (i : Fin 128) (k : Fin 256) :
    val_main_v53 (F := Ideal) (ix6 0 0 n 0 i k : S1x1x32x1x128x256.Idx) =
      if i.val ≤ k.val ∧ k.val ≤ 128 + i.val ∧ (0 < n.val ∨ 128 ≤ k.val) then 1#1 else 0#1 := by
  pointwise [val_main_v53, val_main_v52, val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_v33, val_main_v32, val_main_v31,
    val_main_v30, val_main_v29, val_main_v28, val_main_v27, val_main_v26, val_main_v25, val_main_c_1, val_main_c_2, val_main_c_3, val_main_c_4, val_main_c_5]
  simp only [ge_val, le_val, blk_val, own_val]
  by_cases h1 : i.val ≤ k.val <;> by_cases h2 : k.val ≤ 128 + i.val <;> by_cases h3 : 0 < n.val <;> by_cases h4 : 128 ≤ k.val <;>
    simp [h1, h2, h3, h4, IntOp.andi, IntOp.ori]

end Cert.ReferenceIdeal.Att
-- ==== Proof.Ref2.lean ====
module

public import proofs.«01_k».proof.Proof.Gen.ReferenceIdeal.Read
public import proofs.«01_k».proof.Proof.Spec

@[expose] public section

set_option maxRecDepth 16384

noncomputable section

namespace Cert.ReferenceIdeal.Att

open Cert.ReferenceIdeal Cert.ReferenceIdeal.Read Idealize.ShloMosaic Idealize.ShloMosaic.TcCoe Idealize.SL.Sem

/-- The reduction's indices over the result's index are the result's with each last coordinate. -/
theorem fiber (b : Fin 4) (n : Fin 32) (h : Fin 8) (i : Fin 128) (j : S4x1x32x8x128x256.Idx) :
    Gen.reducesTo_S4x1x32x8x128x256_S4x1x32x8x128_d5.drop j = (ix5 b 0 n h i : S4x1x32x8x128.Idx)
      ↔ ∃ k : Fin 256, (ix6 b 0 n h i k : S4x1x32x8x128x256.Idx) = j := by
  constructor
  · intro e
    refine ⟨j 5, ?_⟩
    funext a
    apply Fin.ext
    have e0 := congrArg Fin.val (congrFun e 0)
    have e1 := congrArg Fin.val (congrFun e 1)
    have e2 := congrArg Fin.val (congrFun e 2)
    have e3 := congrArg Fin.val (congrFun e 3)
    have e4 := congrArg Fin.val (congrFun e 4)
    match a with
    | ⟨0, _⟩ => exact e0.symm
    | ⟨1, _⟩ => exact e1.symm
    | ⟨2, _⟩ => exact e2.symm
    | ⟨3, _⟩ => exact e3.symm
    | ⟨4, _⟩ => exact e4.symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem sum_at (v : S4x1x32x8x128x256.Idx → EReal) (e : EReal) (b : Fin 4) (n : Fin 32) (h : Fin 8) (i : Fin 128) :
    Ideal.hostReduceAdd Gen.reducesTo_S4x1x32x8x128x256_S4x1x32x8x128_d5 v e (ix5 b 0 n h i : S4x1x32x8x128.Idx)
      = e + ∑ k : Fin 256, v (ix6 b 0 n h i k : S4x1x32x8x128x256.Idx) :=
  congrArg (e + ·) (Finset.sum_filter_eq_sum_of_fiber _ (fun k : Fin 256 => (ix6 b 0 n h i k : S4x1x32x8x128x256.Idx))
    (fun _ _ e => congrFun e 5) (fiber b n h i) v)

theorem m_at (x0 x1 : FVec Ideal S16384x512 .bf16) (b : Fin 4) (n : Fin 32) (h : Fin 8) (i : Fin 128) :
    val_main_v55 (F := Ideal) x0 x1 (ix5 b 0 n h i : S4x1x32x8x128.Idx)
      = Soft.top fun k => val_main_v54 (F := Ideal) x0 x1 (ix6 b 0 n h i k : S4x1x32x8x128x256.Idx) := by
  pointwise [val_main_v55, val_main_cst_7]
  have e : Ideal.ofBits FTy.f32 4286578688#32 = (⊥ : EReal) := by simp [Ideal.ofBits, Ideal.ieee]
  rw [e]
  exact Finset.fold_filter_eq_fold_of_fiber max _ (fun k : Fin 256 => (ix6 b 0 n h i k : S4x1x32x8x128x256.Idx))
    (fun _ _ e => congrFun e 5) (fiber b n h i) ⊥ _

theorem e_at (x0 x1 : FVec Ideal S16384x512 .bf16) (b : Fin 4) (n : Fin 32) (h : Fin 8) (i : Fin 128) (k : Fin 256) :
    val_main_v59 (F := Ideal) x0 x1 (ix6 b 0 n h i k : S4x1x32x8x128x256.Idx)
      = Soft.wtE (fun k => val_main_v54 (F := Ideal) x0 x1 (ix6 b 0 n h i k : S4x1x32x8x128x256.Idx)) k := by
  pointwise [val_main_v59, val_main_v58, val_main_v57, val_main_v56, m_at]
  rfl

theorem z_at (x0 x1 : FVec Ideal S16384x512 .bf16) (b : Fin 4) (n : Fin 32) (h : Fin 8) (i : Fin 128) :
    val_main_v60 (F := Ideal) x0 x1 (ix5 b 0 n h i : S4x1x32x8x128.Idx)
      = ∑ k, Soft.wtE (fun k => val_main_v54 (F := Ideal) x0 x1 (ix6 b 0 n h i k : S4x1x32x8x128x256.Idx)) k := by
  pointwise [val_main_v60, val_main_cst_8, sum_at, e_at]

theorem o_at (x0 x1 x2 : FVec Ideal S16384x512 .bf16) (b : Fin 4) (n : Fin 32) (h : Fin 8) (i : Fin 128) (d : Fin 64) :
    val_main_v64 (F := Ideal) x0 x1 x2 (ix6 b 0 n h i d : S4x1x32x8x128x64.Idx)
      = Soft.outE (fun k => val_main_v54 (F := Ideal) x0 x1 (ix6 b 0 n h i k : S4x1x32x8x128x256.Idx))
        (fun k => val_main_v20 (F := Ideal) x2 (ix6 b 0 n k h d : S4x1x32x256x8x64.Idx)) := by
  pointwise [val_main_v64, val_main_v63, val_main_v62, val_main_v61, e_at, z_at]
  rfl

theorem out_at (x0 x1 x2 : FVec Ideal S16384x512 .bf16) (r : Fin 16384) (c : Fin 512) :
    val_main_v77 (F := Ideal) x0 x1 x2 (ix2 r c : S16384x512.Idx)
      = val_main_v64 (F := Ideal) x0 x1 x2 (ix6 ⟨r.val / 4096, by omega⟩ 0 ⟨r.val % 4096 / 128, by omega⟩ ⟨c.val / 64, by omega⟩ ⟨r.val % 128, by omega⟩
        ⟨c.val % 64, by omega⟩ : S4x1x32x8x128x64.Idx) := by
  pointwise [val_main_v77, val_main_v76, val_main_v71, val_main_v70, val_main_v69, val_main_v68]
  congr 2
  exact Fin.ext (by show r.val % 4096 % 128 = r.val % 128; omega)

theorem drop_at (x0 x1 : FVec Ideal S16384x512 .bf16) (b : Fin 4) (n : Fin 32) (h : Fin 8) (i : Fin 128) :
    val_main_v67 (F := Ideal) x0 x1 (ix5 b 0 n h i : S4x1x32x8x128.Idx) = val_main_v66 (F := Ideal) x0 x1 (ix6 b 0 n h i 0 : S4x1x32x8x128x1.Idx) := by
  pointwise [val_main_v67]

theorem keep_m (x0 x1 : FVec Ideal S16384x512 .bf16) (b : Fin 4) (n : Fin 32) (h : Fin 8) (i : Fin 128) :
    val_main_v56 (F := Ideal) x0 x1 (ix6 b 0 n h i 0 : S4x1x32x8x128x1.Idx) = val_main_v55 (F := Ideal) x0 x1 (ix5 b 0 n h i : S4x1x32x8x128.Idx) := by
  pointwise [val_main_v56]

theorem keep_z (x0 x1 : FVec Ideal S16384x512 .bf16) (b : Fin 4) (n : Fin 32) (h : Fin 8) (i : Fin 128) :
    val_main_v61 (F := Ideal) x0 x1 (ix6 b 0 n h i 0 : S4x1x32x8x128x1.Idx) = val_main_v60 (F := Ideal) x0 x1 (ix5 b 0 n h i : S4x1x32x8x128.Idx) := by
  pointwise [val_main_v61]

theorem add_log (a b : Ideal .f32) : FloatOps.addf a (FloatOps.hostUnary .log b) = (a + Ideal.log b : EReal) := rfl

theorem l_at (x0 x1 : FVec Ideal S16384x512 .bf16) (b : Fin 4) (n : Fin 32) (h : Fin 8) (i : Fin 128) :
    val_main_v67 (F := Ideal) x0 x1 (ix5 b 0 n h i : S4x1x32x8x128.Idx)
      = Soft.lseE fun k => val_main_v54 (F := Ideal) x0 x1 (ix6 b 0 n h i k : S4x1x32x8x128x256.Idx) := by
  rw [drop_at, val_main_v66_apply, val_main_v65_apply, keep_m, keep_z, m_at, z_at, add_log]
  rfl

theorem flat_at (x0 x1 : FVec Ideal S16384x512 .bf16) (r : Fin 16384) (c : Fin 8) :
    val_main_v78 (F := Ideal) x0 x1 (ix2 r c : S16384x8.Idx)
      = val_main_v67 (F := Ideal) x0 x1 (ix5 ⟨r.val / 4096, by omega⟩ 0 ⟨r.val % 4096 / 128, by omega⟩ c ⟨r.val % 128, by omega⟩ : S4x1x32x8x128.Idx) := by
  pointwise [val_main_v78, val_main_v75, val_main_v74, val_main_v73, val_main_v72]
  congr 2
  exact Fin.ext (by show r.val % 4096 % 128 = r.val % 128; omega)

theorem pad_at (x0 x1 : FVec Ideal S16384x512 .bf16) (r : Fin 16384) (c : Fin 128) :
    val_main_v79 (F := Ideal) x0 x1 (ix2 r c : S16384x128.Idx)
      = if h : c.val < 8 then val_main_v78 (F := Ideal) x0 x1 (ix2 r ⟨c.val, h⟩ : S16384x8.Idx) else 0 := by
  pointwise [val_main_v79, val_main_call3_v0, val_main_c_9]
  have e : FloatOps.sitofp .f32 (0#32 : BitVec 32) = (0 : Ideal .f32) := by simp [FloatOps.sitofp]
  rw [e]

end Cert.ReferenceIdeal.Att
-- ==== Proof.Ref3.lean ====
module

public import proofs.«01_k».proof.Proof.Ref1
public import proofs.«01_k».proof.Proof.Ref2

@[expose] public section

set_option maxRecDepth 16384

noncomputable section

namespace Cert.ReferenceIdeal.Att

open Cert.ReferenceIdeal Cert.ReferenceIdeal.Read Idealize.ShloMosaic Idealize.ShloMosaic.TcCoe Idealize.SL.Sem

/-! The reference's two results, in the specification's terms. -/

theorem log_two : Ideal.log (Ideal.ofBits .f32 1073741824#32) = ((Real.log 2 : ℝ) : EReal) := by
  have e : Ideal.ofBits .f32 1073741824#32 = ((2 : ℝ) : EReal) := by
    simp [Ideal.ofBits, Ideal.ieee, -EReal.coe_mul]; norm_num
  rw [e]
  exact if_neg (by norm_num : ¬ (2 : ℝ) ≤ 0)

/-- Which of the keys, in the order previous block, own block, a row sees. -/
theorem sees_iff (b : Fin 4) (n : Fin 32) (i : Fin 128) (k : Fin 256) :
    Spec.Sees (at_ b n i) (Spec.rot k) ↔ i.val ≤ k.val ∧ k.val ≤ 128 + i.val ∧ (0 < n.val ∨ 128 ≤ k.val) := by
  unfold Spec.Sees
  rw [Spec.rot_val]
  show (k.val + 128) % 256 ≤ (b.val * 4096 + (n.val * 128 + i.val)) % 128 ∨
    (128 + (b.val * 4096 + (n.val * 128 + i.val)) % 128 ≤ (k.val + 128) % 256 ∧ 128 ≤ (b.val * 4096 + (n.val * 128 + i.val)) % 4096) ↔ _
  omega

/-- The row of a key. -/
theorem row_of (b : Fin 4) (n : Fin 32) (i : Fin 128) (k : Fin 256) (hs : 0 < n.val ∨ 128 ≤ k.val)
    (hb : b.val * 4096 + (n.val * 128 + k.val) - 128 < 16384) :
    (⟨b.val * 4096 + (n.val * 128 + k.val) - 128, hb⟩ : Fin 16384) = Spec.krow (at_ b n i) (Spec.rot k) := by
  apply Fin.ext
  unfold Spec.krow
  show b.val * 4096 + (n.val * 128 + k.val) - 128 = if (k.val + 128) % 256 < 128 then
    128 * ((b.val * 4096 + (n.val * 128 + i.val)) / 128) + (k.val + 128) % 256 else
    128 * ((b.val * 4096 + (n.val * 128 + i.val)) / 128) - 128 + ((k.val + 128) % 256 - 128)
  split <;> omega

/-- A masked score: the product's logarithm base at the keys seen, −∞ elsewhere. -/
theorem sel_eq (p : Prop) [Decidable p] (x y : EReal) :
    Scalar.select (if p then 1#1 else 0#1) x y = if p then x else y := by
  by_cases h : p
  · simp [h, Scalar.select]
  · simp [h, Scalar.select]

/-- The reference's masked score, with its keys in the order previous block, own block. -/
theorem s_at (x0 x1 : FVec Ideal S16384x512 .bf16) (b : Fin 4) (n : Fin 32) (h : Fin 8) (i : Fin 128) (k : Fin 256) :
    val_main_v54 (F := Ideal) x0 x1 (ix6 b 0 n h i k : S4x1x32x8x128x256.Idx)
      = Spec.sc x0 x1 (at_ b n i) h (Spec.rot k) * ((Real.log 2 : ℝ) : EReal) := by
  have hp : (0 : ℝ) < Real.log 2 := Soft.log2_pos
  pointwise [val_main_v54, val_main_v24, val_main_v23, val_main_v22, val_main_v21, val_main_call2_v0, val_main_call2_v1, val_main_call2_v2, val_main_cst, val_main_cst_6, vis_at, q_at]
  refine (sel_eq _ _ _).trans ?_
  by_cases hv : i.val ≤ k.val ∧ k.val ≤ 128 + i.val ∧ (0 < n.val ∨ 128 ≤ k.val)
  · rw [if_pos hv]
    unfold Spec.sc
    rw [if_pos ((sees_iff b n i k).2 hv)]
    refine congr (congrArg HMul.hMul (Finset.sum_congr rfl fun d _ => ?_)) log_two
    refine (mul_comm _ _).trans ?_
    refine congrArg (· * _) ((k_at x1 b n k h d hv.2.2).trans ?_)
    rw [row_of b n i k hv.2.2]
  · rw [if_neg hv]
    unfold Spec.sc
    rw [if_neg fun e => hv ((sees_iff b n i k).1 e), EReal.bot_mul_coe_of_pos hp]
    have e : Ideal.ofBits FTy.f32 4286578688#32 = (⊥ : EReal) := by simp [Ideal.ofBits, Ideal.ieee]
    exact e

/-- The scores of a row at the reference, all keys. -/
theorem s_row (x0 x1 : FVec Ideal S16384x512 .bf16) (b : Fin 4) (n : Fin 32) (h : Fin 8) (i : Fin 128) :
    (fun k : Fin 256 => val_main_v54 (F := Ideal) x0 x1 (ix6 b 0 n h i k : S4x1x32x8x128x256.Idx))
      = fun k => Spec.sc x0 x1 (at_ b n i) h (Spec.rot k) * ((Real.log 2 : ℝ) : EReal) := funext fun k => s_at x0 x1 b n h i k

theorem at_row (r : Fin 16384) (h1 : r.val / 4096 < 4) (h2 : r.val % 4096 / 128 < 32) (h3 : r.val % 128 < 128) :
    at_ ⟨r.val / 4096, h1⟩ ⟨r.val % 4096 / 128, h2⟩ ⟨r.val % 128, h3⟩ = r :=
  Fin.ext (by show r.val / 4096 * 4096 + (r.val % 4096 / 128 * 128 + r.val % 128) = r.val; omega)

/-- The reference's first result. -/
theorem ref9 (x0 x1 x2 : FVec Ideal S16384x512 .bf16) (hQ : ∀ i, ∃ x : ℝ, x0 i = x) (hK : ∀ i, ∃ x : ℝ, x1 i = x)
    (r : Fin 16384) (c : Fin 512) : val_main_v77 (F := Ideal) x0 x1 x2 (ix2 r c : S16384x512.Idx) = Spec.attO x0 x1 x2 r c := by
  refine (out_at x0 x1 x2 r c).trans ((o_at x0 x1 x2 _ _ _ _ _).trans ?_)
  rw [s_row, at_row]
  have hp : (0 : ℝ) < Real.log 2 := Soft.log2_pos
  unfold Spec.attO
  rw [← (Spec.good x0 x1 hQ hK r _).out_eq,
    ← Soft.outE_comp Spec.rot (fun k => Spec.sc x0 x1 r ⟨c.val / 64, by omega⟩ k * ((Real.log 2 : ℝ) : EReal))]
  apply Soft.outE_congr
  intro k
  by_cases hs : Spec.Sees r (Spec.rot k)
  · right
    have hv := (sees_iff ⟨r.val / 4096, by omega⟩ ⟨r.val % 4096 / 128, by omega⟩ ⟨r.val % 128, by omega⟩ k).1 (by rw [at_row]; exact hs)
    refine (v_at x2 _ _ k _ _ hv.2.2).trans ?_
    rw [row_of _ _ ⟨r.val % 128, by omega⟩ k hv.2.2, at_row]
    congr 2
    exact Fin.ext (by show c.val / 64 * 64 + c.val % 64 = c.val; omega)
  · left
    unfold Spec.sc
    rw [if_neg hs, EReal.bot_mul_coe_of_pos hp]

/-- The reference's second result. -/
theorem ref10 (x0 x1 : FVec Ideal S16384x512 .bf16) (hQ : ∀ i, ∃ x : ℝ, x0 i = x) (hK : ∀ i, ∃ x : ℝ, x1 i = x)
    (r : Fin 16384) (c : Fin 128) : val_main_v79 (F := Ideal) x0 x1 (ix2 r c : S16384x128.Idx) = Spec.attLz x0 x1 r c := by
  refine (pad_at x0 x1 r c).trans ?_
  unfold Spec.attLz
  by_cases h : c.val < 8
  · rw [dif_pos h, dif_pos h, flat_at, l_at, s_row, at_row]
    unfold Spec.attL
    rw [← (Spec.good x0 x1 hQ hK r _).lse_eq,
      ← Soft.lseE_comp Spec.rot (fun k => Spec.sc x0 x1 r ⟨c.val, h⟩ k * ((Real.log 2 : ℝ) : EReal))]
  · rw [dif_neg h, dif_neg h]

end Cert.ReferenceIdeal.Att
-- ==== Proof.Row.lean ====
module

public import Idealize.ShloMosaic.Lib.Pipeline.ValueKit
public import Idealize.ShloMosaic.Lib.Pointwise

@[expose] public section

noncomputable section

/-! The layer after its attention, one token (row) at a time, over the extended reals: every function takes the rows it
    needs and gives the token's row. -/

namespace Row

open Idealize.ShloMosaic

/-- A row of `n` lanes. -/
abbrev R (n : ℕ) := Fin n → EReal

/-- An array of two axes as a matrix of rows. -/
def mat {n k : ℕ} (x : (⟨2, ![n, k]⟩ : Shape).Idx → EReal) (t : Fin n) : R k := fun c => x (ix2 t c)

/-- Divide the row by its root mean square (`n` lanes, as a word) and multiply by the gain. -/
def rms {k : ℕ} (n : EReal) (v g : R k) : R k := fun c =>
  v c * Ideal.rsqrt (Ideal.div (∑ x, v x * v x) n + Ideal.ofBits FTy.f32 897988541#32) * g c

/-- The row times a matrix. -/
def lin {n k : ℕ} (v : R n) (w : Fin n → R k) : R k := fun c => ∑ x, v x * w x c

/-- The argument of the hyperbolic tangent in the activation. -/
def bend (z : EReal) : EReal := Ideal.ofBits FTy.f32 1061962282#32 * (z + Ideal.ofBits FTy.f32 1027024659#32 * (z * (z * z)))

/-- The activation: the row's lane times half of one plus the hyperbolic tangent of its bend. -/
def gelu (z : EReal) : EReal := z * (Ideal.ofBits FTy.f32 1056964608#32 * (1 + Ideal.tanh (bend z)))

/-- The 1024 lanes' number, as a word. -/
abbrev n1024 : EReal := Ideal.ofBits FTy.f32 1149239296#32
/-- The 512 lanes' number, as a word. -/
abbrev n512 : EReal := Ideal.ofBits FTy.f32 1140850688#32

/-- The mixed values of one token of a chunk of 128: the lower triangle of each of the four matrices times the chunk's
    rows, plus the token's bias. `t` is the token's place in the chunk. -/
def mix (ws : Fin 4 → Fin 128 → R 128) (bias : R 512) (vas : Fin 128 → R 512) (t : Fin 128) : R 512 := fun c =>
  (∑ s : Fin 128, (if s ≤ t then ws ⟨c.val / 128, by omega⟩ t s else 0) * vas s c) + bias c

/-- The greatest of a head's three normalisers. -/
def top (l0 l1 l2 : EReal) : EReal := max (max l0 l1) l2

/-- The three weights' sum before they are normalised. -/
def den (l0 l1 l2 : EReal) : EReal :=
  Ideal.exp (l0 - top l0 l1 l2) + Ideal.exp (l1 - top l0 l1 l2) + Ideal.exp (l2 - top l0 l1 l2)

/-- The weight of the group whose normaliser is `l`. -/
def wt (l0 l1 l2 l : EReal) : EReal := Ideal.exp (l - top l0 l1 l2) * Ideal.div 1 (den l0 l1 l2)

/-- The head of a lane. -/
def head (c : Fin 512) : Fin 8 := ⟨c.val / 64, by omega⟩

/-- The three groups' attention outputs, weighted head by head. -/
def comb (l0 l1 l2 : R 8) (o0 o1 o2 : R 512) : R 512 := fun c =>
  wt (l0 (head c)) (l1 (head c)) (l2 (head c)) (l0 (head c)) * o0 c + wt (l0 (head c)) (l1 (head c)) (l2 (head c)) (l1 (head c)) * o1 c
    + wt (l0 (head c)) (l1 (head c)) (l2 (head c)) (l2 (head c)) * o2 c

/-- The token after the gated sum of its two halves. -/
def res1 (x ga gb : R 1024) (a b : R 512) (wa wb : Fin 512 → R 1024) (wo : Fin 1024 → R 1024) : R 1024 := fun c =>
  x c + ∑ j, (Ideal.logistic (ga j) * lin a wa j + Ideal.logistic (gb j) * lin b wb j) * wo j c

/-- The two-layer network with squared positive parts. -/
def ffn (h : R 1024) (w1 : Fin 1024 → R 4096) (w2 : Fin 4096 → R 1024) : R 1024 := fun c =>
  ∑ k, max (lin h w1 k) 0 * max (lin h w1 k) 0 * w2 k c

/-- The token after the gated per-layer embedding. -/
def res3 (x g : R 1024) (pe : R 256) (wg : Fin 1024 → R 1024) (wp : Fin 256 → R 1024) : R 1024 := fun c =>
  x c + Ideal.logistic (lin (rms n1024 x g) wg c) * lin pe wp c

/-- The weights, as matrices of rows. `wu`, `wv`, `wga` and `wgb` are column blocks of one matrix. -/
structure Weights where
  gmix : R 1024
  wu : Fin 1024 → R 512
  wv : Fin 1024 → R 512
  wga : Fin 1024 → R 1024
  wgb : Fin 1024 → R 1024
  gv : R 512
  ws : Fin 4 → Fin 128 → R 128
  bias : Fin 128 → R 512
  wa : Fin 512 → R 1024
  wb : Fin 512 → R 1024
  wo : Fin 1024 → R 1024
  gffn : R 1024
  w1 : Fin 1024 → R 4096
  w2 : Fin 4096 → R 1024
  gple : R 1024
  wg : Fin 1024 → R 1024
  wp : Fin 256 → R 1024

/-- What a token brings: its residual row, its three groups' outputs and normalisers, and its embedding. -/
structure Token where
  x : R 1024
  o0 : R 512
  o1 : R 512
  o2 : R 512
  l0 : R 8
  l1 : R 8
  l2 : R 8
  pe : R 256

namespace Weights

variable (W : Weights)

/-- The normalised residual row. -/
def h (x : R 1024) : R 1024 := rms n1024 x W.gmix

/-- The token's first factor. -/
def u (x : R 1024) : R 512 := fun c => gelu (lin (W.h x) W.wu c)

/-- The token's values. -/
def va (x : R 1024) : R 512 := rms n512 (fun c => gelu (lin (W.h x) W.wv c)) W.gv

/-- The token's mixed half, from the rows of its chunk. -/
def a (x : R 1024) (xs : Fin 128 → R 1024) (t : Fin 128) : R 512 := fun c =>
  W.u x c * mix W.ws (W.bias t) (fun s => W.va (xs s)) t c

/-- The token after its attention. -/
def y1 (T : Token) (xs : Fin 128 → R 1024) (t : Fin 128) : R 1024 :=
  res1 T.x (lin (W.h T.x) W.wga) (lin (W.h T.x) W.wgb) (W.a T.x xs t) (comb T.l0 T.l1 T.l2 T.o0 T.o1 T.o2) W.wa W.wb W.wo

/-- The token after its network. -/
def y2 (T : Token) (xs : Fin 128 → R 1024) (t : Fin 128) : R 1024 := fun c =>
  W.y1 T xs t c + ffn (rms n1024 (W.y1 T xs t) W.gffn) W.w1 W.w2 c

/-- The token's output. -/
def y (T : Token) (xs : Fin 128 → R 1024) (t : Fin 128) : R 1024 := res3 (W.y2 T xs t) W.gple T.pe W.wg W.wp

end Weights

/-- Where tile order of dilation four keeps token `t`. -/
def src4 (t : Fin 16384) : Fin 16384 := ⟨256 * (t.val / 256) + (64 * (t.val % 4) + t.val % 256 / 4), by omega⟩

/-- Where tile order of dilation sixteen keeps token `t`. -/
def src16 (t : Fin 16384) : Fin 16384 := ⟨256 * (t.val / 256) + (16 * (t.val % 16) + t.val % 256 / 16), by omega⟩

/-- The eight heads' normalisers of a row. -/
def heads (x : (⟨2, ![16384, 128]⟩ : Shape).Idx → EReal) (t : Fin 16384) : R 8 := fun c => x (ix2 t ⟨c, by omega⟩)

/-- Place `s` of the chunk of token `t`. -/
def chunk (t : Fin 16384) (s : Fin 128) : Fin 16384 := ⟨128 * (t.val / 128) + s.val, by omega⟩

/-- The place of a token in its chunk. -/
def place (t : Fin 16384) : Fin 128 := ⟨t.val % 128, by omega⟩

section

variable (x0 : (⟨2, ![16384, 1024]⟩ : Shape).Idx → EReal) (x1 x2 x3 : (⟨2, ![16384, 512]⟩ : Shape).Idx → EReal)
  (x4 x5 x6 : (⟨2, ![16384, 128]⟩ : Shape).Idx → EReal) (x7 : (⟨2, ![16384, 256]⟩ : Shape).Idx → EReal)
  (x8 : (⟨2, ![1, 1024]⟩ : Shape).Idx → EReal) (x9 : (⟨2, ![1024, 7680]⟩ : Shape).Idx → EReal)
  (x10 : (⟨2, ![1, 512]⟩ : Shape).Idx → EReal) (x11 : (⟨3, ![4, 128, 128]⟩ : Shape).Idx → EReal)
  (x12 : (⟨2, ![128, 512]⟩ : Shape).Idx → EReal) (x13 x14 : (⟨2, ![512, 1024]⟩ : Shape).Idx → EReal)
  (x15 : (⟨2, ![1024, 1024]⟩ : Shape).Idx → EReal) (x16 : (⟨2, ![1, 1024]⟩ : Shape).Idx → EReal)
  (x17 : (⟨2, ![1024, 4096]⟩ : Shape).Idx → EReal) (x18 : (⟨2, ![4096, 1024]⟩ : Shape).Idx → EReal)
  (x19 : (⟨2, ![1, 1024]⟩ : Shape).Idx → EReal) (x20 : (⟨2, ![1024, 1024]⟩ : Shape).Idx → EReal)
  (x21 : (⟨2, ![256, 1024]⟩ : Shape).Idx → EReal)

/-- The weights, from the arrays that hold them. -/
def weights : Weights where
  gmix := mat x8 0
  wu := fun k c => mat x9 k ⟨c, by omega⟩
  wv := fun k c => mat x9 k ⟨512 + c, by omega⟩
  wga := fun k c => mat x9 k ⟨5632 + c, by omega⟩
  wgb := fun k c => mat x9 k ⟨6656 + c, by omega⟩
  gv := mat x10 0
  ws := fun g r s => x11 (ix3 g r s)
  bias := mat x12
  wa := mat x13
  wb := mat x14
  wo := mat x15
  gffn := mat x16 0
  w1 := mat x17
  w2 := mat x18
  gple := mat x19 0
  wg := mat x20
  wp := mat x21

/-- Token `t`, from the arrays that hold it. -/
def token (t : Fin 16384) : Token where
  x := mat x0 t
  o0 := mat x1 t
  o1 := mat x2 (src4 t)
  o2 := mat x3 (src16 t)
  l0 := heads x4 t
  l1 := heads x5 (src4 t)
  l2 := heads x6 (src16 t)
  pe := mat x7 t

/-- The output row of token `t`. -/
def out (t : Fin 16384) : R 1024 :=
  (weights x8 x9 x10 x11 x12 x13 x14 x15 x16 x17 x18 x19 x20 x21).y (token x0 x1 x2 x3 x4 x5 x6 x7 t) (fun s => mat x0 (chunk t s)) (place t)

/-- The values' row of token `t`. -/
def outVa (t : Fin 16384) : R 512 :=
  rms n512 (fun c => gelu (lin (rms n1024 (mat x0 t) (mat x8 0)) (fun k c => mat x9 k ⟨512 + c, by omega⟩) c)) (mat x10 0)

end

end Row
-- ==== Proof.KRow.lean ====
module

public import proofs.«01_k».proof.Proof.Row
public import proofs.«01_k».proof.Proof.Gen.MergeIdeal.Skeleton

@[expose] public section

set_option maxRecDepth 16384

noncomputable section

/-! One grid step of the merging kernel, stage by stage: row `r` of every stage is the row function of `Row` at row `r` of
    the stages it is computed from. -/

namespace Cert.MergeIdeal.Mrg

open Cert.MergeIdeal Cert.MergeIdeal.Gen Idealize.ShloMosaic Idealize.ShloMosaic.TcCoe

/-- Row `r` of an array. -/
abbrev row {n k : ℕ} (x : (⟨2, ![n, k]⟩ : Shape).Idx → EReal) (r : Fin n) : Row.R k := fun c => x (ix2 r c)

theorem h_at (v0 : FVec Ideal S256x1024 .f32) (v1 : FVec Ideal S1x1024 .f32) (r : Fin 256) :
    row (k0_pay2 (F := Ideal) v0 v1) r = Row.rms Row.n1024 (row v0 r) (row v1 0) := by
  funext c
  unfold row Row.rms
  pointwise [k0_pay2]

theorem u_at (v0 : FVec Ideal S256x1024 .f32) (v1 : FVec Ideal S1x1024 .f32) (w : FVec Ideal S1024x512 .bf16) (r : Fin 256) :
    row (k0_pay3 (F := Ideal) v0 v1 w) r = fun c => Row.gelu (Row.lin (row (k0_pay2 (F := Ideal) v0 v1) r) (row w) c) := by
  funext c
  unfold row Row.gelu Row.bend Row.lin
  pointwise [k0_pay3]

theorem v_at (v0 : FVec Ideal S256x1024 .f32) (v1 : FVec Ideal S1x1024 .f32) (w : FVec Ideal S1024x512 .bf16) (r : Fin 256) :
    row (k0_pay4 (F := Ideal) v0 v1 w) r = Row.lin (row (k0_pay2 (F := Ideal) v0 v1) r) (row w) := by
  funext c
  unfold row Row.lin
  pointwise [k0_pay4]

theorem bend_at (v0 : FVec Ideal S256x1024 .f32) (v1 : FVec Ideal S1x1024 .f32) (w : FVec Ideal S1024x512 .bf16) (r : Fin 256) (c : Fin 512) :
    k0_pay5 (F := Ideal) v0 v1 w (ix2 r c) = Row.bend (k0_pay4 (F := Ideal) v0 v1 w (ix2 r c)) := by
  unfold Row.bend
  pointwise [k0_pay5]

theorem va_at (v b : FVec Ideal S256x512 .f32) (g : FVec Ideal S1x512 .f32) (hb : ∀ r c, b (ix2 r c) = Row.bend (v (ix2 r c))) (r : Fin 256) :
    row (k0_pay6 (F := Ideal) v b g) r = Row.rms Row.n512 (fun c => Row.gelu (row v r c)) (row g 0) := by
  funext c
  unfold row Row.rms Row.gelu
  simp only [← hb]
  pointwise [k0_pay6]

theorem va_word (v b : FVec Ideal S256x512 .f32) (g : FVec Ideal S1x512 .f32) : k0_pay8 (F := Ideal) v b g = k0_pay6 (F := Ideal) v b g := rfl

theorem ge_val : ∀ t s : Fin 128, IntOp.cmpi .sge (BitVec.ofNat 32 t.val) (BitVec.ofNat 32 s.val) = BitVec.ofBool (decide (s ≤ t)) := by
  decide +kernel

/-- The lower triangle of one of the four matrices. -/
theorem ge_val' (a : ℕ) (ha : a < 128) (s : Fin 128) : IntOp.cmpi .sge (BitVec.ofNat 32 a) (BitVec.ofNat 32 s.val) = BitVec.ofBool (decide (s ≤ ⟨a, ha⟩)) :=
  ge_val ⟨a, ha⟩ s

theorem sel (p : Prop) [Decidable p] (x y : EReal) : Scalar.select (BitVec.ofBool (decide p)) x y = if p then x else y := by
  by_cases h : p <;> simp [h, Scalar.select]

theorem tri_at (w : FVec Ideal S1x128x128 .bf16) (t s : Fin 128) :
    k0_pay9 (F := Ideal) w (ix2 t s) = if s ≤ t then w (ix3 0 t s) else 0 := by
  pointwise [k0_pay9, ge_val]

theorem tri_at' (w : FVec Ideal S1x128x128 .bf16) : k0_pay10 (F := Ideal) w = k0_pay9 (F := Ideal) w := rfl

/-- The mixed half of the step's rows. -/
def MIXA (u va : FVec Ideal S256x512 .f32) (w0 w1 w2 w3 : FVec Ideal S1x128x128 .bf16) (b : FVec Ideal S128x512 .f32) : FVec Ideal S256x512 .f32 :=
  k0_pay13 (F := Ideal) u va (iota .tc S128x128 32 [0] iota_S128x128_d0_w32) (iota .tc S128x128 32 [1] iota_S128x128_d1_w32) (k0_pay9 w0) (k0_pay9 w1)
    k0_pay11 (k0_pay12 w2) (Scalar.ofBits .bf16 0x0000#16) w3 b b

theorem mix_sum (ws : Fin 4 → Fin 128 → Row.R 128) (bias : Row.R 512) (vas : Fin 128 → Row.R 512) (t : Fin 128) (c : Fin 512) (k : Fin 4)
    (hk : c.val / 128 = k.val) (f : Fin 128 → EReal) (b : EReal) (hf : ∀ s, f s = (if s ≤ t then ws k t s else 0) * vas s c) (hb : b = bias c) :
    (∑ s, f s) + b = Row.mix ws bias vas t c := by
  unfold Row.mix
  have e : (⟨c.val / 128, by omega⟩ : Fin 4) = k := Fin.ext hk
  rw [e, hb]
  exact congrArg (· + bias c) (Finset.sum_congr rfl fun s _ => hf s)

/-- Row `s` of the chunk of 128 rows that row `r` lies in. -/
def chunk (r : Fin 256) (s : Fin 128) : Fin 256 := ⟨128 * (r.val / 128) + s.val, by omega⟩

theorem mix_at (u va : FVec Ideal S256x512 .f32) (w0 w1 w2 w3 : FVec Ideal S1x128x128 .bf16) (b : FVec Ideal S128x512 .f32)
    (ws : Fin 4 → Fin 128 → Row.R 128) (h0 : ∀ t s, w0 (ix3 0 t s) = ws 0 t s) (h1 : ∀ t s, w1 (ix3 0 t s) = ws 1 t s)
    (h2 : ∀ t s, w2 (ix3 0 t s) = ws 2 t s) (h3 : ∀ t s, w3 (ix3 0 t s) = ws 3 t s) (r : Fin 256) :
    row (MIXA u va w0 w1 w2 w3 b) r = fun c => row u r c * Row.mix ws (row b ⟨r.val % 128, by omega⟩) (fun s => row va (chunk r s)) ⟨r.val % 128, by omega⟩ c := by
  funext c
  unfold row MIXA
  pointwise [k0_pay13, k0_pay11, k0_pay12, tri_at]
  refine congrArg (u (ix2 r c) * ·) ?_
  have hs : ∀ (t s : Fin 128) (w v : EReal), Scalar.select (BitVec.ofBool (decide (s ≤ t))) (w * v) 0 = (if s ≤ t then w else 0) * v := by
    intro t s w v
    rw [sel]
    split <;> simp
  by_cases hr : r.val < 128
  · have e : (⟨r.val % 128, by omega⟩ : Fin 128) = ⟨r.val, hr⟩ := Fin.ext (by show r.val % 128 = r.val; omega)
    have ec : ∀ s : Fin 128, chunk r s = ⟨s.val, by omega⟩ := fun s => Fin.ext (by show 128 * (r.val / 128) + s.val = s.val; omega)
    simp only [dif_pos hr, ge_val' r.val hr, hs, h0, h1, h2, h3, e, ec]
    split
    · exact mix_sum _ _ _ _ _ 0 (by show c.val / 128 = 0; omega) _ _ (fun s => rfl) rfl
    split
    · refine mix_sum _ _ _ _ _ 1 (by show c.val / 128 = 1; omega) _ _ (fun s => ?_) rfl
      congr 3; exact Fin.ext (by show 128 + (c.val - 128) = c.val; omega)
    split
    · refine mix_sum _ _ _ _ _ 2 (by show c.val / 128 = 2; omega) _ _ (fun s => ?_) rfl
      congr 3; exact Fin.ext (by show 256 + (c.val - 128 - 128) = c.val; omega)
    · refine mix_sum _ _ _ _ _ 3 (by show c.val / 128 = 3; omega) _ _ (fun s => ?_) rfl
      congr 3; exact Fin.ext (by show 384 + (c.val - 128 - 128 - 128) = c.val; omega)
  · have hr' : r.val - 128 < 128 := by omega
    have e : (⟨r.val % 128, by omega⟩ : Fin 128) = ⟨r.val - 128, hr'⟩ := Fin.ext (by show r.val % 128 = r.val - 128; omega)
    have ec : ∀ s : Fin 128, chunk r s = ⟨128 + s.val, by omega⟩ := fun s => Fin.ext (by show 128 * (r.val / 128) + s.val = 128 + s.val; omega)
    simp only [dif_neg hr, ge_val' (r.val - 128) hr', hs, h0, h1, h2, h3, e, ec]
    split
    · exact mix_sum _ _ _ _ _ 0 (by show c.val / 128 = 0; omega) _ _ (fun s => rfl) rfl
    split
    · refine mix_sum _ _ _ _ _ 1 (by show c.val / 128 = 1; omega) _ _ (fun s => ?_) rfl
      congr 3; exact Fin.ext (by show 128 + (c.val - 128) = c.val; omega)
    split
    · refine mix_sum _ _ _ _ _ 2 (by show c.val / 128 = 2; omega) _ _ (fun s => ?_) rfl
      congr 3; exact Fin.ext (by show 256 + (c.val - 128 - 128) = c.val; omega)
    · refine mix_sum _ _ _ _ _ 3 (by show c.val / 128 = 3; omega) _ _ (fun s => ?_) rfl
      congr 3; exact Fin.ext (by show 384 + (c.val - 128 - 128 - 128) = c.val; omega)

theorem w0_at (l0 l1 l2 : FVec Ideal S256x128 .f32) (r : Fin 256) (k : Fin 128) :
    k0_pay141 (F := Ideal) l0 l1 l2 (ix2 r k) = Row.wt (l0 (ix2 r k)) (l1 (ix2 r k)) (l2 (ix2 r k)) (l0 (ix2 r k)) := by
  unfold Row.wt Row.den Row.top
  pointwise [k0_pay141, k0_pay140, k0_pay139, k0_pay138, k0_pay137, k0_pay136]

theorem w1_at (l0 l1 l2 : FVec Ideal S256x128 .f32) (r : Fin 256) (k : Fin 128) :
    k0_pay142 (F := Ideal) l0 l1 l2 (ix2 r k) = Row.wt (l0 (ix2 r k)) (l1 (ix2 r k)) (l2 (ix2 r k)) (l1 (ix2 r k)) := by
  unfold Row.wt Row.den Row.top
  pointwise [k0_pay142, k0_pay140, k0_pay139, k0_pay138, k0_pay137, k0_pay136]

theorem w2_at (l0 l1 l2 : FVec Ideal S256x128 .f32) (r : Fin 256) (k : Fin 128) :
    k0_pay143 (F := Ideal) l0 l1 l2 (ix2 r k) = Row.wt (l0 (ix2 r k)) (l1 (ix2 r k)) (l2 (ix2 r k)) (l2 (ix2 r k)) := by
  unfold Row.wt Row.den Row.top
  pointwise [k0_pay143, k0_pay140, k0_pay139, k0_pay138, k0_pay137, k0_pay136]

/-- The combined attention of the step's rows, from each group's four column slabs and its normalisers. -/
def COMB (a0 a1 a2 a3 b0 b1 b2 b3 c0 c1 c2 c3 l0 l1 l2 : FVec Ideal S256x128 .f32) : FVec Ideal S256x512 .f32 :=
  k0_pay152 (F := Ideal) a3 b2 b3 c2 c3 (k0_pay141 l0 l1 l2) (k0_pay142 l0 l1 l2) (k0_pay143 l0 l1 l2) k0_pay144
    (k0_pay148 a0 b0 c0 (k0_pay142 l0 l1 l2) (k0_pay143 l0 l1 l2) k0_pay144 k0_pay145 (k0_pay146 l0 l1 l2) (k0_pay147 l0 l1 l2))
    (k0_pay149 a1 b1 c1 (k0_pay141 l0 l1 l2) (k0_pay142 l0 l1 l2) (k0_pay143 l0 l1 l2) k0_pay144) k0_pay150
    (k0_pay151 a2 (k0_pay141 l0 l1 l2) k0_pay144)

theorem lt_val (q : ℕ) (hq : q < 128) : IntOp.cmpi .slt (BitVec.ofNat 32 q) 64#32 = BitVec.ofBool (decide (q < 64)) :=
  (by decide +kernel : ∀ q : Fin 128, IntOp.cmpi .slt (BitVec.ofNat 32 q.val) 64#32 = BitVec.ofBool (decide (q.val < 64))) ⟨q, hq⟩

/-- The eight heads' normalisers of row `r`. -/
abbrev heads (l : FVec Ideal S256x128 .f32) (r : Fin 256) : Row.R 8 := fun k => l (ix2 r ⟨k.val, by omega⟩)

/-- The four column slabs are the columns of `o`, row by row. -/
def Slabs (o : Fin 256 → Row.R 512) (x0 x1 x2 x3 : FVec Ideal S256x128 .f32) : Prop :=
  ∀ (r : Fin 256) (q : Fin 128), x0 (ix2 r q) = o r ⟨q.val, by omega⟩ ∧ x1 (ix2 r q) = o r ⟨128 + q.val, by omega⟩
    ∧ x2 (ix2 r q) = o r ⟨256 + q.val, by omega⟩ ∧ x3 (ix2 r q) = o r ⟨384 + q.val, by omega⟩

/-- One slab's term: the weights of the two heads of the slab, chosen by the lane's half. -/
theorem slab_term (w : FVec Ideal S256x128 .f32) (r : Fin 256) (c : Fin 512) (q : ℕ) (hq : q < 128) (k k' : Fin 128)
    (hk : 2 * (c.val / 128) = k.val) (hk' : 2 * (c.val / 128) + 1 = k'.val) (e : c.val % 128 = q) (x y : EReal) (hx : x = y) :
    Scalar.select (IntOp.cmpi .slt (BitVec.ofNat 32 q) 64#32) (w (ix2 r k)) (w (ix2 r k')) * x = w (ix2 r ⟨(Row.head c).val, by omega⟩) * y := by
  rw [lt_val q hq, sel, hx]
  refine congrArg (· * y) ?_
  split
  · refine congrArg (fun k => w (ix2 r k)) (Fin.ext ?_); show k.val = c.val / 64; omega
  · refine congrArg (fun k => w (ix2 r k)) (Fin.ext ?_); show k'.val = c.val / 64; omega

theorem comb_at (a0 a1 a2 a3 b0 b1 b2 b3 c0 c1 c2 c3 l0 l1 l2 : FVec Ideal S256x128 .f32) (o0 o1 o2 : Fin 256 → Row.R 512)
    (ha : Slabs o0 a0 a1 a2 a3) (hb : Slabs o1 b0 b1 b2 b3) (hc : Slabs o2 c0 c1 c2 c3) (r : Fin 256) :
    row (COMB a0 a1 a2 a3 b0 b1 b2 b3 c0 c1 c2 c3 l0 l1 l2) r = Row.comb (heads l0 r) (heads l1 r) (heads l2 r) (o0 r) (o1 r) (o2 r) := by
  funext c
  unfold row COMB Row.comb heads
  rw [← w0_at, ← w1_at, ← w2_at]
  pointwise [k0_pay152, k0_pay151, k0_pay150, k0_pay149, k0_pay148, k0_pay147, k0_pay146, k0_pay145, k0_pay144]
  have hl : ∀ (o : Fin 256 → Row.R 512) (n m : ℕ) (h : m < 512), n = m → (h' : n < 512) → o r ⟨n, h'⟩ = o r ⟨m, h⟩ := by
    intro o n m h e h'; subst e; rfl
  split
  next h =>
    refine congrArg₂ (· + ·) (congrArg₂ (· + ·) ?_ ?_) ?_
    · exact slab_term _ r c _ h 0 1 (by show 2 * (c.val / 128) = 0; omega) (by show 2 * (c.val / 128) + 1 = 1; omega) (by omega) _ _ ((ha r ⟨_, h⟩).1.trans (hl _ _ _ _ rfl _))
    · exact slab_term _ r c _ h 0 1 (by show 2 * (c.val / 128) = 0; omega) (by show 2 * (c.val / 128) + 1 = 1; omega) (by omega) _ _ ((hb r ⟨_, h⟩).1.trans (hl _ _ _ _ rfl _))
    · exact slab_term _ r c _ h 0 1 (by show 2 * (c.val / 128) = 0; omega) (by show 2 * (c.val / 128) + 1 = 1; omega) (by omega) _ _ ((hc r ⟨_, h⟩).1.trans (hl _ _ _ _ rfl _))
  split
  next h =>
    refine congrArg₂ (· + ·) (congrArg₂ (· + ·) ?_ ?_) ?_
    · exact slab_term _ r c _ h 2 3 (by show 2 * (c.val / 128) = 2; omega) (by show 2 * (c.val / 128) + 1 = 3; omega) (by omega) _ _ ((ha r ⟨_, h⟩).2.1.trans (hl _ _ _ _ (by show 128 + (c.val - 128) = c.val; omega) _))
    · exact slab_term _ r c _ h 2 3 (by show 2 * (c.val / 128) = 2; omega) (by show 2 * (c.val / 128) + 1 = 3; omega) (by omega) _ _ ((hb r ⟨_, h⟩).2.1.trans (hl _ _ _ _ (by show 128 + (c.val - 128) = c.val; omega) _))
    · exact slab_term _ r c _ h 2 3 (by show 2 * (c.val / 128) = 2; omega) (by show 2 * (c.val / 128) + 1 = 3; omega) (by omega) _ _ ((hc r ⟨_, h⟩).2.1.trans (hl _ _ _ _ (by show 128 + (c.val - 128) = c.val; omega) _))
  split
  next h =>
    refine congrArg₂ (· + ·) (congrArg₂ (· + ·) ?_ ?_) ?_
    · exact slab_term _ r c _ h 4 5 (by show 2 * (c.val / 128) = 4; omega) (by show 2 * (c.val / 128) + 1 = 5; omega) (by omega) _ _ ((ha r ⟨_, h⟩).2.2.1.trans (hl _ _ _ _ (by show 256 + (c.val - 128 - 128) = c.val; omega) _))
    · exact slab_term _ r c _ h 4 5 (by show 2 * (c.val / 128) = 4; omega) (by show 2 * (c.val / 128) + 1 = 5; omega) (by omega) _ _ ((hb r ⟨_, h⟩).2.2.1.trans (hl _ _ _ _ (by show 256 + (c.val - 128 - 128) = c.val; omega) _))
    · exact slab_term _ r c _ h 4 5 (by show 2 * (c.val / 128) = 4; omega) (by show 2 * (c.val / 128) + 1 = 5; omega) (by omega) _ _ ((hc r ⟨_, h⟩).2.2.1.trans (hl _ _ _ _ (by show 256 + (c.val - 128 - 128) = c.val; omega) _))
  next h1 h2 h3 =>
    have h : c.val - 128 - 128 - 128 < 128 := by omega
    refine congrArg₂ (· + ·) (congrArg₂ (· + ·) ?_ ?_) ?_
    · exact slab_term _ r c _ h 6 7 (by show 2 * (c.val / 128) = 6; omega) (by show 2 * (c.val / 128) + 1 = 7; omega) (by omega) _ _ ((ha r ⟨_, h⟩).2.2.2.trans (hl _ _ _ _ (by show 384 + (c.val - 128 - 128 - 128) = c.val; omega) _))
    · exact slab_term _ r c _ h 6 7 (by show 2 * (c.val / 128) = 6; omega) (by show 2 * (c.val / 128) + 1 = 7; omega) (by omega) _ _ ((hb r ⟨_, h⟩).2.2.2.trans (hl _ _ _ _ (by show 384 + (c.val - 128 - 128 - 128) = c.val; omega) _))
    · exact slab_term _ r c _ h 6 7 (by show 2 * (c.val / 128) = 6; omega) (by show 2 * (c.val / 128) + 1 = 7; omega) (by omega) _ _ ((hc r ⟨_, h⟩).2.2.2.trans (hl _ _ _ _ (by show 384 + (c.val - 128 - 128 - 128) = c.val; omega) _))

theorem sum_two (f : Fin 1024 → EReal) :
    ∑ x, f x = ∑ x : Fin 512, f ⟨x.val, by omega⟩ + ∑ x : Fin 512, f ⟨512 + x.val, by omega⟩ :=
  Fin.sum_univ_add (a := 512) (b := 512) f

theorem sum_four (f : Fin 4096 → EReal) : ∑ x, f x = ∑ x : Fin 1024, f ⟨x.val, by omega⟩ + ∑ x : Fin 1024, f ⟨1024 + x.val, by omega⟩
    + ∑ x : Fin 1024, f ⟨2048 + x.val, by omega⟩ + ∑ x : Fin 1024, f ⟨3072 + x.val, by omega⟩ := by
  refine (Fin.sum_univ_add (a := 3072) (b := 1024) f).trans (congrArg (· + _) ?_)
  refine (Fin.sum_univ_add (a := 2048) (b := 1024) _).trans (congrArg (· + _) ?_)
  exact Fin.sum_univ_add (a := 1024) (b := 1024) _

theorem x1_at (x : FVec Ideal S256x1024 .f32) (h : FVec Ideal S256x1024 .bf16) (a b : FVec Ideal S256x512 .f32) (wa0 wa1 wb0 wb1 : FVec Ideal S1024x512 .bf16)
    (wa wb : FVec Ideal S512x1024 .bf16) (wo : FVec Ideal S1024x1024 .bf16) (ga gb : Fin 1024 → Row.R 1024)
    (h0 : ∀ k (j : Fin 512), wa0 (ix2 k j) = ga k ⟨j.val, by omega⟩) (h1 : ∀ k (j : Fin 512), wa1 (ix2 k j) = ga k ⟨512 + j.val, by omega⟩)
    (h2 : ∀ k (j : Fin 512), wb0 (ix2 k j) = gb k ⟨j.val, by omega⟩) (h3 : ∀ k (j : Fin 512), wb1 (ix2 k j) = gb k ⟨512 + j.val, by omega⟩) (r : Fin 256) :
    row (k0_pay154 (F := Ideal) x h a b (k0_pay153 (F := Ideal) h wa0 wa1) wb0 wb1 wa wb wo) r
      = Row.res1 (row x r) (Row.lin (row h r) ga) (Row.lin (row h r) gb) (row a r) (row b r) (row wa) (row wb) (row wo) := by
  funext c
  unfold row Row.res1 Row.lin
  pointwise [k0_pay154, k0_pay153]
  simp only [h0, h1, h2, h3]
  rw [sum_two fun x => (Ideal.logistic (∑ k, h (ix2 r k) * ga k x) * ∑ k, a (ix2 r k) * wa (ix2 k x)
    + Ideal.logistic (∑ k, h (ix2 r k) * gb k x) * ∑ k, b (ix2 r k) * wb (ix2 k x)) * wo (ix2 x c)]

theorem h2_at (x : FVec Ideal S256x1024 .f32) (h : FVec Ideal S256x1024 .bf16) (a b : FVec Ideal S256x512 .f32) (v : FVec Ideal S256x1024 .f32) (wb0 wb1 : FVec Ideal S1024x512 .bf16)
    (wa wb : FVec Ideal S512x1024 .bf16) (wo : FVec Ideal S1024x1024 .bf16) (g : FVec Ideal S1x1024 .f32) (r : Fin 256) :
    row (k0_pay155 (F := Ideal) x h a b v wb0 wb1 wa wb wo g) r = Row.rms Row.n1024 (row (k0_pay154 (F := Ideal) x h a b v wb0 wb1 wa wb wo) r) (row g 0) := by
  funext c
  unfold row Row.rms
  pointwise [k0_pay155]

theorem ffn_at (h : FVec Ideal S256x1024 .bf16) (p0 q0 p1 q1 p2 q2 p3 q3 : FVec Ideal S1024x1024 .bf16) (w1 : Fin 1024 → Row.R 4096) (w2 : Fin 4096 → Row.R 1024)
    (e0 : ∀ k (j : Fin 1024), p0 (ix2 k j) = w1 k ⟨j.val, by omega⟩) (e1 : ∀ k (j : Fin 1024), p1 (ix2 k j) = w1 k ⟨1024 + j.val, by omega⟩)
    (e2 : ∀ k (j : Fin 1024), p2 (ix2 k j) = w1 k ⟨2048 + j.val, by omega⟩) (e3 : ∀ k (j : Fin 1024), p3 (ix2 k j) = w1 k ⟨3072 + j.val, by omega⟩)
    (f0 : ∀ (k j : Fin 1024), q0 (ix2 k j) = w2 ⟨k.val, by omega⟩ j) (f1 : ∀ (k j : Fin 1024), q1 (ix2 k j) = w2 ⟨1024 + k.val, by omega⟩ j)
    (f2 : ∀ (k j : Fin 1024), q2 (ix2 k j) = w2 ⟨2048 + k.val, by omega⟩ j) (f3 : ∀ (k j : Fin 1024), q3 (ix2 k j) = w2 ⟨3072 + k.val, by omega⟩ j) (r : Fin 256) :
    row (k0_pay157 (F := Ideal) h k0_pay156 p0 (constant S256x1024 .f32 0x00000000#32) q0 p1 q1 p2 q2 p3 q3) r = Row.ffn (row h r) w1 w2 := by
  funext c
  unfold row Row.ffn Row.lin
  pointwise [k0_pay157, k0_pay156]
  simp only [e0, e1, e2, e3, f0, f1, f2, f3]
  rw [sum_four fun x => max (∑ k, h (ix2 r k) * w1 k x) 0 * max (∑ k, h (ix2 r k) * w1 k x) 0 * w2 x c]

theorem y_at (x1 f : FVec Ideal S256x1024 .f32) (g : FVec Ideal S1x1024 .f32) (wg : FVec Ideal S1024x1024 .bf16) (pe : FVec Ideal S256x256 .f32) (wp : FVec Ideal S256x1024 .bf16) (r : Fin 256) :
    row (k0_pay1 (F := Ideal) (k0_pay158 (F := Ideal) x1 f) (k0_pay159 (F := Ideal) x1 f g wg) (k0_pay160 (F := Ideal) pe) wp (constant S256x1024 .f32 0x00000000#32)) r
      = Row.res3 (fun c => row x1 r c + row f r c) (row g 0) (row pe r) (row wg) (row wp) := by
  funext c
  unfold row Row.res3 Row.rms Row.lin
  pointwise [k0_pay1, k0_pay158, k0_pay159, k0_pay160]

end Cert.MergeIdeal.Mrg
-- ==== Proof.MBlk.lean ====
module

public import proofs.«01_k».proof.Proof.KRow
public import proofs.«01_k».proof.Proof.Gen.MergeIdeal.Frame.RunB
public import Idealize.ShloMosaic.Lib.Pipeline.ValueKit

@[expose] public section

set_option maxRecDepth 16384

noncomputable section

/-! The blocks that one grid step of the merging kernel reads, as parts of the arrays. -/

namespace Cert.MergeIdeal.Mrg

open Cert.MergeIdeal Cert.MergeIdeal.Gen Idealize.ShloMosaic Idealize.ShloMosaic.TcCoe Idealize.SL.Sem

variable (m : (ℓ : Loc nD τ sig) → Buf (Elt Ideal) ℓ) (c : Dev nD)

abbrev A0 : FVec Ideal S16384x1024 .f32 := m ((c : Thread nD τ).loc main_arg0)
abbrev A1 : FVec Ideal S16384x512 .bf16 := m ((c : Thread nD τ).loc main_arg1)
abbrev A2 : FVec Ideal S16384x512 .bf16 := m ((c : Thread nD τ).loc main_arg2)
abbrev A3 : FVec Ideal S16384x512 .bf16 := m ((c : Thread nD τ).loc main_arg3)
abbrev A4 : FVec Ideal S16384x128 .f32 := m ((c : Thread nD τ).loc main_arg4)
abbrev A5 : FVec Ideal S16384x128 .f32 := m ((c : Thread nD τ).loc main_arg5)
abbrev A6 : FVec Ideal S16384x128 .f32 := m ((c : Thread nD τ).loc main_arg6)
abbrev A7 : FVec Ideal S16384x256 .f32 := m ((c : Thread nD τ).loc main_arg7)
abbrev A8 : FVec Ideal S1x1024 .f32 := m ((c : Thread nD τ).loc main_arg8)
abbrev A9 : FVec Ideal S1024x7680 .bf16 := m ((c : Thread nD τ).loc main_arg9)
abbrev A10 : FVec Ideal S1x512 .f32 := m ((c : Thread nD τ).loc main_arg10)
abbrev A11 : FVec Ideal S4x128x128 .bf16 := m ((c : Thread nD τ).loc main_arg11)
abbrev A12 : FVec Ideal S128x512 .f32 := m ((c : Thread nD τ).loc main_arg12)
abbrev A13 : FVec Ideal S512x1024 .bf16 := m ((c : Thread nD τ).loc main_arg13)
abbrev A14 : FVec Ideal S512x1024 .bf16 := m ((c : Thread nD τ).loc main_arg14)
abbrev A15 : FVec Ideal S1024x1024 .bf16 := m ((c : Thread nD τ).loc main_arg15)
abbrev A16 : FVec Ideal S1x1024 .f32 := m ((c : Thread nD τ).loc main_arg16)
abbrev A17 : FVec Ideal S1024x4096 .bf16 := m ((c : Thread nD τ).loc main_arg17)
abbrev A18 : FVec Ideal S4096x1024 .bf16 := m ((c : Thread nD τ).loc main_arg18)
abbrev A19 : FVec Ideal S1x1024 .f32 := m ((c : Thread nD τ).loc main_arg19)
abbrev A20 : FVec Ideal S1024x1024 .bf16 := m ((c : Thread nD τ).loc main_arg20)
abbrev A21 : FVec Ideal S256x1024 .bf16 := m ((c : Thread nD τ).loc main_arg21)

/-- The block that window `0` … `7` reads is the step's own, and window `27` writes there. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_27.index t = ![t.val, 0] ∧ win0_28.index t = ![t.val / 16, 0, 0] :=
  (by decide +kernel : ∀ t : Fin grid0.N, _)

/-- The column blocks of the first matrix. -/
theorem idx9 : ∀ t : Fin cfg0.N, win0_9.index t = ![0, 0] ∧ win0_10.index t = ![0, 1] ∧ win0_11.index t = ![0, 11]
    ∧ win0_12.index t = ![0, 12] ∧ win0_13.index t = ![0, 13] ∧ win0_14.index t = ![0, 14] :=
  (by decide +kernel : ∀ t : Fin grid0.N, _)

/-- Every other window reads its whole array. -/
theorem idxW : ∀ t : Fin cfg0.N, win0_8.index t = ![0, 0] ∧ win0_15.index t = ![0, 0] ∧ win0_16.index t = ![0, 0, 0]
    ∧ win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] ∧ win0_24.index t = ![0, 0]
    ∧ win0_25.index t = ![0, 0] ∧ win0_26.index t = ![0, 0] :=
  (by decide +kernel : ∀ t : Fin grid0.N, _)

theorem lt64 (t : Fin cfg0.N) : t.val < 64 := t.isLt

variable (t : Fin cfg0.N)

/-- The token of row `r` of step `t`. -/
def at_ (r : Fin 256) : Fin 16384 := ⟨t.val * 256 + r.val, by have := lt64 t; omega⟩

theorem b0 (r : Fin 256) (l : Fin 1024) : (iblk m c 0 t : FVec Ideal S256x1024 .f32) (ix2 r l) = A0 m c (ix2 (at_ t r) l) := by
  have := lt64 t
  blk_ext [iblk, V, idx t, at_]
theorem b1 (r : Fin 256) (l : Fin 512) : (iblk m c 1 t : FVec Ideal S256x512 .bf16) (ix2 r l) = A1 m c (ix2 (at_ t r) l) := by
  have := lt64 t
  blk_ext [iblk, V, idx t, at_]
theorem b2 (r : Fin 256) (l : Fin 512) : (iblk m c 2 t : FVec Ideal S256x512 .bf16) (ix2 r l) = A2 m c (ix2 (at_ t r) l) := by
  have := lt64 t
  blk_ext [iblk, V, idx t, at_]
theorem b3 (r : Fin 256) (l : Fin 512) : (iblk m c 3 t : FVec Ideal S256x512 .bf16) (ix2 r l) = A3 m c (ix2 (at_ t r) l) := by
  have := lt64 t
  blk_ext [iblk, V, idx t, at_]
theorem b4 (r : Fin 256) (l : Fin 128) : (iblk m c 4 t : FVec Ideal S256x128 .f32) (ix2 r l) = A4 m c (ix2 (at_ t r) l) := by
  have := lt64 t
  blk_ext [iblk, V, idx t, at_]
theorem b5 (r : Fin 256) (l : Fin 128) : (iblk m c 5 t : FVec Ideal S256x128 .f32) (ix2 r l) = A5 m c (ix2 (at_ t r) l) := by
  have := lt64 t
  blk_ext [iblk, V, idx t, at_]
theorem b6 (r : Fin 256) (l : Fin 128) : (iblk m c 6 t : FVec Ideal S256x128 .f32) (ix2 r l) = A6 m c (ix2 (at_ t r) l) := by
  have := lt64 t
  blk_ext [iblk, V, idx t, at_]
theorem b7 (r : Fin 256) (l : Fin 256) : (iblk m c 7 t : FVec Ideal S256x256 .f32) (ix2 r l) = A7 m c (ix2 (at_ t r) l) := by
  have := lt64 t
  blk_ext [iblk, V, idx t, at_]

theorem b9 (k : Fin 1024) (l : Fin 512) : (iblk m c 9 t : FVec Ideal S1024x512 .bf16) (ix2 k l) = A9 m c (ix2 k ⟨l.val, by omega⟩) := by
  blk_ext [iblk, V, idx9 t]
theorem b10 (k : Fin 1024) (l : Fin 512) : (iblk m c 10 t : FVec Ideal S1024x512 .bf16) (ix2 k l) = A9 m c (ix2 k ⟨512 + l.val, by omega⟩) := by
  blk_ext [iblk, V, idx9 t]
theorem b11 (k : Fin 1024) (l : Fin 512) : (iblk m c 11 t : FVec Ideal S1024x512 .bf16) (ix2 k l) = A9 m c (ix2 k ⟨5632 + l.val, by omega⟩) := by
  blk_ext [iblk, V, idx9 t]
theorem b12 (k : Fin 1024) (l : Fin 512) : (iblk m c 12 t : FVec Ideal S1024x512 .bf16) (ix2 k l) = A9 m c (ix2 k ⟨5632 + (512 + l.val), by omega⟩) := by
  blk_ext [iblk, V, idx9 t]
theorem b13 (k : Fin 1024) (l : Fin 512) : (iblk m c 13 t : FVec Ideal S1024x512 .bf16) (ix2 k l) = A9 m c (ix2 k ⟨6656 + l.val, by omega⟩) := by
  blk_ext [iblk, V, idx9 t]
theorem b14 (k : Fin 1024) (l : Fin 512) : (iblk m c 14 t : FVec Ideal S1024x512 .bf16) (ix2 k l) = A9 m c (ix2 k ⟨6656 + (512 + l.val), by omega⟩) := by
  blk_ext [iblk, V, idx9 t]

theorem b8 (k : Fin 1) (l : Fin 1024) : (iblk m c 8 t : FVec Ideal S1x1024 .f32) (ix2 k l) = A8 m c (ix2 k l) := by blk_ext [iblk, V, idxW t]
theorem b15 (k : Fin 1) (l : Fin 512) : (iblk m c 15 t : FVec Ideal S1x512 .f32) (ix2 k l) = A10 m c (ix2 k l) := by blk_ext [iblk, V, idxW t]
theorem b16 (g : Fin 4) (k l : Fin 128) : (iblk m c 16 t : FVec Ideal S4x128x128 .bf16) (ix3 g k l) = A11 m c (ix3 g k l) := by blk_ext [iblk, V, idxW t]
theorem b17 (k : Fin 128) (l : Fin 512) : (iblk m c 17 t : FVec Ideal S128x512 .f32) (ix2 k l) = A12 m c (ix2 k l) := by blk_ext [iblk, V, idxW t]
theorem b18 (k : Fin 512) (l : Fin 1024) : (iblk m c 18 t : FVec Ideal S512x1024 .bf16) (ix2 k l) = A13 m c (ix2 k l) := by blk_ext [iblk, V, idxW t]
theorem b19 (k : Fin 512) (l : Fin 1024) : (iblk m c 19 t : FVec Ideal S512x1024 .bf16) (ix2 k l) = A14 m c (ix2 k l) := by blk_ext [iblk, V, idxW t]
theorem b20 (k l : Fin 1024) : (iblk m c 20 t : FVec Ideal S1024x1024 .bf16) (ix2 k l) = A15 m c (ix2 k l) := by blk_ext [iblk, V, idxW t]
theorem b21 (k : Fin 1) (l : Fin 1024) : (iblk m c 21 t : FVec Ideal S1x1024 .f32) (ix2 k l) = A16 m c (ix2 k l) := by blk_ext [iblk, V, idxW t]
theorem b22 (k : Fin 1024) (l : Fin 4096) : (iblk m c 22 t : FVec Ideal S1024x4096 .bf16) (ix2 k l) = A17 m c (ix2 k l) := by blk_ext [iblk, V, idxW t]
theorem b23 (k : Fin 4096) (l : Fin 1024) : (iblk m c 23 t : FVec Ideal S4096x1024 .bf16) (ix2 k l) = A18 m c (ix2 k l) := by blk_ext [iblk, V, idxW t]
theorem b24 (k : Fin 1) (l : Fin 1024) : (iblk m c 24 t : FVec Ideal S1x1024 .f32) (ix2 k l) = A19 m c (ix2 k l) := by blk_ext [iblk, V, idxW t]
theorem b25 (k l : Fin 1024) : (iblk m c 25 t : FVec Ideal S1024x1024 .bf16) (ix2 k l) = A20 m c (ix2 k l) := by blk_ext [iblk, V, idxW t]
theorem b26 (k : Fin 256) (l : Fin 1024) : (iblk m c 26 t : FVec Ideal S256x1024 .bf16) (ix2 k l) = A21 m c (ix2 k l) := by blk_ext [iblk, V, idxW t]

end Cert.MergeIdeal.Mrg
-- ==== Proof.MScr.lean ====
module

public import proofs.«01_k».proof.Proof.Gen.MergeIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

/-! Rows written with a stride and read back in order: a buffer of 256 rows, whose rows `r`, `r + d`, `r + 2d`, … are written
    from `n` consecutive rows of a block. -/

namespace Cert.MergeIdeal.Mrg

open Cert.MergeIdeal Cert.MergeIdeal.Gen Idealize.ShloMosaic Idealize.ShloMosaic.TcCoe

/-- The row of the block that row `r` of the buffer was written from. -/
def from_ (d n : ℕ) (r : ℕ) : Fin 256 := ⟨(n * (r % d) + r / d) % 256, by omega⟩

/-- What the four slabs hold after all the stores. -/
def G3 (V : FVec Ideal S256x512 .bf16) (d n : ℕ) : S4x256x128.Idx → EReal := fun y =>
  V (ix2 (from_ d n (y 1).val) ⟨(128 * (y 0).val + (y 2).val) % 512, by omega⟩)

/-- What the normalisers' buffer holds after all the stores. -/
def G2 (V : FVec Ideal S256x128 .f32) (d n : ℕ) : S256x128.Idx → EReal := fun y => V (ix2 (from_ d n (y 0).val) (y 1))

/-- Whether the rectangle is the one of rows `r`, `r + d`, … of slab `k`. -/
def hits3 (k r d n : ℕ) (R : Rect S4x256x128) : Bool :=
  R.off 0 == k && R.off 1 == r && R.off 2 == 0 && R.size 0 == 1 && R.size 1 == n && R.size 2 == 128 && R.stride 1 == d && R.stride 2 == 1

/-- Whether the rectangle is the one of rows `r`, `r + d`, …. -/
def hits2 (r d n : ℕ) (R : Rect S256x128) : Bool :=
  R.off 0 == r && R.off 1 == 0 && R.size 0 == n && R.size 1 == 128 && R.stride 0 == d && R.stride 1 == 1

theorem read3 {sp : Space} (v : View sig .tc sp S4x256x128 .f32) (V : FVec Ideal S256x512 .bf16) (d n : ℕ) (hd : 0 < d) (hdn : d * n = 256)
    (L : List (View.Piece (Elt Ideal) S4x256x128 .f32)) (hL : View.PiecesOf (G3 V d n) L) (k : Fin 4)
    (hk : ((List.range d).all fun r => L.any fun p => hits3 k.val r d n p.1) = true)
    (o : Fin 3 → ℕ) (ho : o = ![k.val, 0, 0]) (inb : ∀ a, o a + (![1, 256, 128] : Fin 3 → ℕ) a ≤ S4x256x128.size a) (r : Fin 256) (q : Fin 128) :
    v.readCov L (Rect.unit (s := S4x256x128) o ![1, 256, 128] inb).toLoadRect (ix3 (0 : Fin 1) r q) = G3 V d n (ix3 k r q) := by
  subst ho
  rw [View.readCov_eq_canon']
  have e : (Rect.unit (s := S4x256x128) ![k.val, 0, 0] ![1, 256, 128] inb).toLoadRect.idx (ix3 (0 : Fin 1) r q) = (ix3 k r q : S4x256x128.Idx) := by
    funext a
    match a with
    | ⟨0, _⟩ => exact Fin.ext (show k.val + 1 * 0 = k.val by omega)
    | ⟨1, _⟩ => exact Fin.ext (show 0 + 1 * r.val = r.val by omega)
    | ⟨2, _⟩ => exact Fin.ext (show 0 + 1 * q.val = q.val by omega)
  show View.canon L _ = _
  rw [e]
  refine View.canon_apply_of_pieces (G3 V d n) L hL.mem _ ?_
  have h := List.all_eq_true.mp hk (r.val % d) (List.mem_range.mpr (Nat.mod_lt _ hd))
  obtain ⟨p, hp, h⟩ := List.any_eq_true.mp h
  refine ⟨p, hp, p.1.mem_set.mpr fun a => ?_⟩
  simp only [hits3, Bool.and_eq_true, beq_iff_eq] at h
  obtain ⟨⟨⟨⟨⟨⟨⟨h0, h1⟩, h2⟩, s0⟩, s1⟩, s2⟩, t1⟩, t2⟩ := h
  match a with
  | ⟨0, _⟩ => exact ⟨0, by show 0 < p.1.size 0; omega, show k.val = p.1.off 0 + p.1.stride 0 * 0 by omega⟩
  | ⟨1, _⟩ =>
    refine ⟨r.val / d, ?_, ?_⟩
    · show r.val / d < p.1.size 1
      rw [s1]; exact Nat.div_lt_of_lt_mul (by rw [hdn]; exact r.isLt)
    · show r.val = p.1.off 1 + p.1.stride 1 * (r.val / d)
      rw [h1, t1]; exact (Nat.mod_add_div _ _).symm
  | ⟨2, _⟩ => exact ⟨q.val, by show q.val < p.1.size 2; omega, by show q.val = p.1.off 2 + p.1.stride 2 * q.val; rw [h2, t2]; omega⟩

theorem read2 {sp : Space} (v : View sig .tc sp S256x128 .f32) (V : FVec Ideal S256x128 .f32) (d n : ℕ) (hd : 0 < d) (hdn : d * n = 256)
    (L : List (View.Piece (Elt Ideal) S256x128 .f32)) (hL : View.PiecesOf (G2 V d n) L)
    (hk : ((List.range d).all fun r => L.any fun p => hits2 r d n p.1) = true)
    (inb : ∀ a, (![0, 0] : Fin 2 → ℕ) a + (![256, 128] : Fin 2 → ℕ) a ≤ S256x128.size a) (r : Fin 256) (q : Fin 128) :
    v.readCov L (Rect.unit (s := S256x128) ![0, 0] ![256, 128] inb).toLoadRect (ix2 r q) = G2 V d n (ix2 r q) := by
  rw [View.readCov_eq_canon']
  have e : (Rect.unit (s := S256x128) ![0, 0] ![256, 128] inb).toLoadRect.idx (ix2 r q) = (ix2 r q : S256x128.Idx) := by
    funext a
    match a with
    | ⟨0, _⟩ => exact Fin.ext (show 0 + 1 * r.val = r.val by omega)
    | ⟨1, _⟩ => exact Fin.ext (show 0 + 1 * q.val = q.val by omega)
  show View.canon L _ = _
  rw [e]
  refine View.canon_apply_of_pieces (G2 V d n) L hL.mem _ ?_
  have h := List.all_eq_true.mp hk (r.val % d) (List.mem_range.mpr (Nat.mod_lt _ hd))
  obtain ⟨p, hp, h⟩ := List.any_eq_true.mp h
  refine ⟨p, hp, p.1.mem_set.mpr fun a => ?_⟩
  simp only [hits2, Bool.and_eq_true, beq_iff_eq] at h
  obtain ⟨⟨⟨⟨⟨h1, h2⟩, s1⟩, s2⟩, t1⟩, t2⟩ := h
  match a with
  | ⟨0, _⟩ =>
    refine ⟨r.val / d, ?_, ?_⟩
    · show r.val / d < p.1.size 0
      rw [s1]; exact Nat.div_lt_of_lt_mul (by rw [hdn]; exact r.isLt)
    · show r.val = p.1.off 0 + p.1.stride 0 * (r.val / d)
      rw [h1, t1]; exact (Nat.mod_add_div _ _).symm
  | ⟨1, _⟩ => exact ⟨q.val, by show q.val < p.1.size 1; omega, by show q.val = p.1.off 1 + p.1.stride 1 * q.val; rw [h2, t2]; omega⟩

/-- Where a store of slab `k` puts row `x` of the `n` rows from row `n * r` on. -/
theorem from_at (d n r x : ℕ) (hr : r < d) (hx : x < n) (hdn : d * n = 256) : (from_ d n (r + d * x)).val = n * r + x := by
  show (n * ((r + d * x) % d) + (r + d * x) / d) % 256 = _
  rw [Nat.add_mul_mod_self_left, Nat.mod_eq_of_lt hr, Nat.add_mul_div_left _ _ (by omega), Nat.div_eq_of_lt hr, Nat.zero_add]
  have : n * r + x < 256 := by
    have h := Nat.mul_le_mul_right n (show r + 1 ≤ d by omega)
    rw [hdn, Nat.add_mul] at h
    rw [Nat.mul_comm n r]
    omega
  exact Nat.mod_eq_of_lt this

/-- One store of four, from the block's rows on. -/
theorem piece64 (V : FVec Ideal S256x512 .bf16) (k r ro co : ℕ) (hro : ro = 64 * r) (hco : co = 128 * k) (hk : k < 4) (hr : r < 4) (i1 i2 sp)
    (x : S1x64x128.Idx) :
    k0_pay18 (F := Ideal) (View.ld (Val := Elt Ideal) (e' := .bf16) V (Rect.unit (s := S256x512) ![ro, co] ![64, 128] i1)) x
      = G3 V 4 64 ((Rect.mk ⟨![k, r, 0], ![1, 64, 128], ![1, 4, 1], i2⟩ sp : Rect S4x256x128).emb x) := by
  idx_vars x
  pointwise [k0_pay18]
  refine congrArg V (congrArg₂ ix2 (Fin.ext ?_) (Fin.ext ?_))
  · exact (show ro + x1.val = 64 * r + x1.val by omega).trans (from_at 4 64 r x1.val hr x1.isLt rfl).symm
  · show co + x2.val = (128 * (k + 1 * x0.val) + (0 + 1 * x2.val)) % 512
    omega

/-- One store of sixteen. -/
theorem piece16 (V : FVec Ideal S256x512 .bf16) (k r ro co : ℕ) (hro : ro = 16 * r) (hco : co = 128 * k) (hk : k < 4) (hr : r < 16) (i1 i2 sp)
    (x : S1x16x128.Idx) :
    k0_pay122 (F := Ideal) (View.ld (Val := Elt Ideal) (e' := .bf16) V (Rect.unit (s := S256x512) ![ro, co] ![16, 128] i1)) x
      = G3 V 16 16 ((Rect.mk ⟨![k, r, 0], ![1, 16, 128], ![1, 16, 1], i2⟩ sp : Rect S4x256x128).emb x) := by
  idx_vars x
  pointwise [k0_pay122]
  refine congrArg V (congrArg₂ ix2 (Fin.ext ?_) (Fin.ext ?_))
  · exact (show ro + x1.val = 16 * r + x1.val by omega).trans (from_at 16 16 r x1.val hr x1.isLt rfl).symm
  · show co + x2.val = (128 * (k + 1 * x0.val) + (0 + 1 * x2.val)) % 512
    omega

theorem lpiece64 (V : FVec Ideal S256x128 .f32) (r ro : ℕ) (hro : ro = 64 * r) (hr : r < 4) (i1 i2 sp) (x : S64x128.Idx) :
    k0_pay22 (F := Ideal) (View.ld (Val := Elt Ideal) (e' := .f32) V (Rect.unit (s := S256x128) ![ro, 0] ![64, 128] i1)) x
      = G2 V 4 64 ((Rect.mk ⟨![r, 0], ![64, 128], ![4, 1], i2⟩ sp : Rect S256x128).emb x) := by
  idx_vars x
  pointwise [k0_pay22]
  refine congrArg V (congrArg₂ ix2 (Fin.ext ?_) (Fin.ext ?_))
  · exact (show ro + x0.val = 64 * r + x0.val by omega).trans (from_at 4 64 r x0.val hr x0.isLt rfl).symm
  · show _ = 0 + 1 * x1.val
    simp

theorem lpiece16 (V : FVec Ideal S256x128 .f32) (r ro : ℕ) (hro : ro = 16 * r) (hr : r < 16) (i1 i2 sp) (x : S16x128.Idx) :
    k0_pay120 (F := Ideal) (View.ld (Val := Elt Ideal) (e' := .f32) V (Rect.unit (s := S256x128) ![ro, 0] ![16, 128] i1)) x
      = G2 V 16 16 ((Rect.mk ⟨![r, 0], ![16, 128], ![16, 1], i2⟩ sp : Rect S256x128).emb x) := by
  idx_vars x
  pointwise [k0_pay120]
  refine congrArg V (congrArg₂ ix2 (Fin.ext ?_) (Fin.ext ?_))
  · exact (show ro + x0.val = 16 * r + x0.val by omega).trans (from_at 16 16 r x0.val hr x0.isLt rfl).symm
  · show _ = 0 + 1 * x1.val
    simp

end Cert.MergeIdeal.Mrg
-- ==== Proof.MStep.lean ====
module

public import proofs.«01_k».proof.Proof.KRow

@[expose] public section

set_option maxRecDepth 16384

noncomputable section

/-! One grid step of the merging kernel as a whole: row `r` of its output is the token function at the step's rows. -/

namespace Cert.MergeIdeal.Mrg

open Cert.MergeIdeal Cert.MergeIdeal.Gen Idealize.ShloMosaic Idealize.ShloMosaic.TcCoe

section

variable (x : FVec Ideal S256x1024 .f32) (gm : FVec Ideal S1x1024 .f32) (wu wv : FVec Ideal S1024x512 .bf16) (gv : FVec Ideal S1x512 .f32)
  (w0 w1 w2 w3 : FVec Ideal S1x128x128 .bf16) (b : FVec Ideal S128x512 .f32) (a0 a1 a2 a3 b0 b1 b2 b3 c0 c1 c2 c3 l0 l1 l2 : FVec Ideal S256x128 .f32)
  (wga0 wga1 wgb0 wgb1 : FVec Ideal S1024x512 .bf16) (wa wb : FVec Ideal S512x1024 .bf16) (wo : FVec Ideal S1024x1024 .bf16)
  (gf : FVec Ideal S1x1024 .f32) (p0 q0 p1 q1 p2 q2 p3 q3 : FVec Ideal S1024x1024 .bf16) (gp : FVec Ideal S1x1024 .f32)
  (wg : FVec Ideal S1024x1024 .bf16) (pe : FVec Ideal S256x256 .f32) (wp : FVec Ideal S256x1024 .bf16)

/-- The step's values. -/
def VA : FVec Ideal S256x512 .f32 := k0_pay8 (F := Ideal) (k0_pay4 x gm wv) (k0_pay5 x gm wv) gv

/-- The step's mixed half. -/
def MX : FVec Ideal S256x512 .f32 := MIXA (k0_pay3 x gm wu) (VA x gm wv gv) w0 w1 w2 w3 b

/-- The step's rows after their attention. -/
def X1 : FVec Ideal S256x1024 .f32 :=
  k0_pay154 (F := Ideal) x (k0_pay2 x gm) (MX x gm wu wv gv w0 w1 w2 w3 b) (COMB a0 a1 a2 a3 b0 b1 b2 b3 c0 c1 c2 c3 l0 l1 l2)
    (k0_pay153 (F := Ideal) (k0_pay2 x gm) wga0 wga1) wgb0 wgb1 wa wb wo

/-- The step's network. -/
def FF : FVec Ideal S256x1024 .f32 :=
  k0_pay157 (F := Ideal)
    (k0_pay155 (F := Ideal) x (k0_pay2 x gm) (MX x gm wu wv gv w0 w1 w2 w3 b) (COMB a0 a1 a2 a3 b0 b1 b2 b3 c0 c1 c2 c3 l0 l1 l2)
      (k0_pay153 (F := Ideal) (k0_pay2 x gm) wga0 wga1) wgb0 wgb1 wa wb wo gf)
    k0_pay156 p0 (constant S256x1024 .f32 0x00000000#32) q0 p1 q1 p2 q2 p3 q3

/-- The step's output. -/
def YY : FVec Ideal S256x1024 .f32 :=
  k0_pay1 (F := Ideal)
    (k0_pay158 (F := Ideal) (X1 x gm wu wv gv w0 w1 w2 w3 b a0 a1 a2 a3 b0 b1 b2 b3 c0 c1 c2 c3 l0 l1 l2 wga0 wga1 wgb0 wgb1 wa wb wo)
      (FF x gm wu wv gv w0 w1 w2 w3 b a0 a1 a2 a3 b0 b1 b2 b3 c0 c1 c2 c3 l0 l1 l2 wga0 wga1 wgb0 wgb1 wa wb wo gf p0 q0 p1 q1 p2 q2 p3 q3))
    (k0_pay159 (F := Ideal) (X1 x gm wu wv gv w0 w1 w2 w3 b a0 a1 a2 a3 b0 b1 b2 b3 c0 c1 c2 c3 l0 l1 l2 wga0 wga1 wgb0 wgb1 wa wb wo)
      (FF x gm wu wv gv w0 w1 w2 w3 b a0 a1 a2 a3 b0 b1 b2 b3 c0 c1 c2 c3 l0 l1 l2 wga0 wga1 wgb0 wgb1 wa wb wo gf p0 q0 p1 q1 p2 q2 p3 q3) gp wg)
    (k0_pay160 (F := Ideal) pe) wp (constant S256x1024 .f32 0x00000000#32)

/-- The blocks of weights are the weights. -/
structure Holds (W : Row.Weights) : Prop where
  gm : row gm 0 = W.gmix
  wu : row wu = W.wu
  wv : row wv = W.wv
  gv : row gv 0 = W.gv
  w0 : ∀ t s, w0 (ix3 0 t s) = W.ws 0 t s
  w1 : ∀ t s, w1 (ix3 0 t s) = W.ws 1 t s
  w2 : ∀ t s, w2 (ix3 0 t s) = W.ws 2 t s
  w3 : ∀ t s, w3 (ix3 0 t s) = W.ws 3 t s
  b : row b = W.bias
  ga0 : ∀ k (j : Fin 512), wga0 (ix2 k j) = W.wga k ⟨j.val, by omega⟩
  ga1 : ∀ k (j : Fin 512), wga1 (ix2 k j) = W.wga k ⟨512 + j.val, by omega⟩
  gb0 : ∀ k (j : Fin 512), wgb0 (ix2 k j) = W.wgb k ⟨j.val, by omega⟩
  gb1 : ∀ k (j : Fin 512), wgb1 (ix2 k j) = W.wgb k ⟨512 + j.val, by omega⟩
  wa : row wa = W.wa
  wb : row wb = W.wb
  wo : row wo = W.wo
  gf : row gf 0 = W.gffn
  e0 : ∀ k (j : Fin 1024), p0 (ix2 k j) = W.w1 k ⟨j.val, by omega⟩
  e1 : ∀ k (j : Fin 1024), p1 (ix2 k j) = W.w1 k ⟨1024 + j.val, by omega⟩
  e2 : ∀ k (j : Fin 1024), p2 (ix2 k j) = W.w1 k ⟨2048 + j.val, by omega⟩
  e3 : ∀ k (j : Fin 1024), p3 (ix2 k j) = W.w1 k ⟨3072 + j.val, by omega⟩
  f0 : ∀ (k j : Fin 1024), q0 (ix2 k j) = W.w2 ⟨k.val, by omega⟩ j
  f1 : ∀ (k j : Fin 1024), q1 (ix2 k j) = W.w2 ⟨1024 + k.val, by omega⟩ j
  f2 : ∀ (k j : Fin 1024), q2 (ix2 k j) = W.w2 ⟨2048 + k.val, by omega⟩ j
  f3 : ∀ (k j : Fin 1024), q3 (ix2 k j) = W.w2 ⟨3072 + k.val, by omega⟩ j
  gp : row gp 0 = W.gple
  wg : row wg = W.wg
  wp : row wp = W.wp

/-- The step's values are the tokens'. -/
theorem values_at (W : Row.Weights) (hgm : row gm 0 = W.gmix) (hwv : row wv = W.wv) (hgv : row gv 0 = W.gv) (r : Fin 256) :
    row (VA x gm wv gv) r = W.va (row x r) := by
  unfold VA Row.Weights.va Row.Weights.h
  rw [va_word, va_at _ _ _ (bend_at x gm wv), hgv]
  have e : row (k0_pay4 (F := Ideal) x gm wv) r = Row.lin (Row.rms Row.n1024 (row x r) W.gmix) W.wv := by rw [v_at, h_at, hgm, hwv]
  rw [e]

theorem step_at (W : Row.Weights)
    (H : Holds gm wu wv gv w0 w1 w2 w3 b wga0 wga1 wgb0 wgb1 wa wb wo gf p0 q0 p1 q1 p2 q2 p3 q3 gp wg wp W)
    (o0 o1 o2 : Fin 256 → Row.R 512) (ha : Slabs o0 a0 a1 a2 a3) (hb : Slabs o1 b0 b1 b2 b3) (hc : Slabs o2 c0 c1 c2 c3) (r : Fin 256) :
    row (YY x gm wu wv gv w0 w1 w2 w3 b a0 a1 a2 a3 b0 b1 b2 b3 c0 c1 c2 c3 l0 l1 l2 wga0 wga1 wgb0 wgb1 wa wb wo gf p0 q0 p1 q1 p2 q2 p3 q3 gp wg pe wp) r
      = W.y ⟨row x r, o0 r, o1 r, o2 r, heads l0 r, heads l1 r, heads l2 r, row pe r⟩ (fun s => row x (chunk r s)) ⟨r.val % 128, by omega⟩ := by
  have hh : row (k0_pay2 (F := Ideal) x gm) r = W.h (row x r) := by rw [h_at, H.gm]; rfl
  have hu : row (k0_pay3 (F := Ideal) x gm wu) r = W.u (row x r) := by rw [u_at, hh, H.wu]; rfl
  have hm : row (MX x gm wu wv gv w0 w1 w2 w3 b) r = W.a (row x r) (fun s => row x (chunk r s)) ⟨r.val % 128, by omega⟩ := by
    unfold MX Row.Weights.a
    rw [mix_at _ _ _ _ _ _ _ W.ws H.w0 H.w1 H.w2 H.w3, hu, H.b]
    simp only [values_at x gm wv gv W H.gm H.wv H.gv]
  have h1 : row (X1 x gm wu wv gv w0 w1 w2 w3 b a0 a1 a2 a3 b0 b1 b2 b3 c0 c1 c2 c3 l0 l1 l2 wga0 wga1 wgb0 wgb1 wa wb wo) r
      = W.y1 ⟨row x r, o0 r, o1 r, o2 r, heads l0 r, heads l1 r, heads l2 r, row pe r⟩ (fun s => row x (chunk r s)) ⟨r.val % 128, by omega⟩ := by
    unfold X1 Row.Weights.y1
    rw [x1_at _ _ _ _ _ _ _ _ _ _ _ W.wga W.wgb H.ga0 H.ga1 H.gb0 H.gb1, hh, hm, comb_at _ _ _ _ _ _ _ _ _ _ _ _ _ _ _ o0 o1 o2 ha hb hc, H.wa, H.wb, H.wo]
  have h2 : row (FF x gm wu wv gv w0 w1 w2 w3 b a0 a1 a2 a3 b0 b1 b2 b3 c0 c1 c2 c3 l0 l1 l2 wga0 wga1 wgb0 wgb1 wa wb wo gf p0 q0 p1 q1 p2 q2 p3 q3) r
      = Row.ffn (Row.rms Row.n1024 (W.y1 ⟨row x r, o0 r, o1 r, o2 r, heads l0 r, heads l1 r, heads l2 r, row pe r⟩ (fun s => row x (chunk r s)) ⟨r.val % 128, by omega⟩) W.gffn) W.w1 W.w2 := by
    unfold FF
    rw [ffn_at _ _ _ _ _ _ _ _ _ W.w1 W.w2 H.e0 H.e1 H.e2 H.e3 H.f0 H.f1 H.f2 H.f3, h2_at, H.gf, ← h1]
    rfl
  unfold YY
  rw [y_at, h1, h2, H.gp, H.wg, H.wp]
  rfl

end

end Cert.MergeIdeal.Mrg
-- ==== Proof.MFrame.lean ====
/-
The launch of the merge call: its runs (one per case of the conditional store), its obligation and its frame.
The set-up is the one every launch of this kind has. It stands here because the obligation over 29 windows needs a
larger budget than the usual one.
-/
module

public import proofs.«01_k».proof.Proof.Gen.MergeIdeal.Frame.RunB
public import Idealize.ShloMosaic.Lib.Claim
public import Idealize.ShloMosaic.Lib.Pipeline.Value

@[expose] public section

set_option maxRecDepth 16384

noncomputable section

namespace Cert.MergeIdeal.Mrg

open Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_27 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : ¬cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) (y : S256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).1 S256x1024.size (by sl_kernel_rfl) y

/-- What a point that does not end a row of 16 leaves in the buffer of the result. -/
def out0_A_27 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : ¬cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) : Vec F S256x1024 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).1)

/-- Such a point stores nothing for the sequence of values. -/
def out0_A_28 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : ¬cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) : Vec F S1x128x512 .f32 :=
  VO0_28.read (Elt F) (VO0_28.writes (Elt F) VO0_28.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).2.1)

theorem cover0_B_27 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) (y : S256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).1 S256x1024.size (by sl_kernel_rfl) y

/-- What a point that ends a row of 16 leaves in the buffer of the result. -/
def out0_B_27 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) : Vec F S256x1024 .f32 :=
  VO0_27.read (Elt F) (VO0_27.writes (Elt F) VO0_27.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).1)

theorem cover0_B_28 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) (y : S1x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).2.1 S1x128x512.size (by sl_kernel_rfl) y

/-- What it leaves in the buffer of the sequence of values. -/
def out0_B_28 (c : Dev nD) (i : grid0.Coords) (arg2 : Memref sig .tc .vmem S256x1024 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S1x1024 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1x512 .f32) (harg17 : arg17.IsWhole) (arg18 : Memref sig .tc .vmem S4x128x128 .bf16) (harg18 : arg18.IsWhole) (arg19 : Memref sig .tc .vmem S128x512 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x1024 .f32) (harg23 : arg23.IsWhole) (arg24 : Memref sig .tc .vmem S1024x4096 .bf16) (harg24 : arg24.IsWhole) (arg25 : Memref sig .tc .vmem S4096x1024 .bf16) (harg25 : arg25.IsWhole) (arg26 : Memref sig .tc .vmem S1x1024 .f32) (harg26 : arg26.IsWhole) (arg27 : Memref sig .tc .vmem S1024x1024 .bf16) (harg27 : arg27.IsWhole) (arg28 : Memref sig .tc .vmem S256x1024 .bf16) (harg28 : arg28.IsWhole) (arg29 : Memref sig .tc .vmem S256x1024 .f32) (harg29 : arg29.IsWhole) (arg30 : Memref sig .tc .vmem S1x128x512 .f32) (harg30 : arg30.IsWhole) (arg31 : Memref sig .tc .vmem S4x256x128 .f32) (harg31 : arg31.IsWhole) (arg32 : Memref sig .tc .vmem S256x128 .f32) (harg32 : arg32.IsWhole) (arg33 : Memref sig .tc .vmem S4x256x128 .f32) (harg33 : arg33.IsWhole) (arg34 : Memref sig .tc .vmem S256x128 .f32) (harg34 : arg34.IsWhole) (hc0 : cond0_0 i)
    (x0 : Vec F S256x1024 .f32) (x1 : Vec F S256x512 .bf16) (x2 : Vec F S256x512 .bf16) (x3 : Vec F S256x512 .bf16) (x4 : Vec F S256x128 .f32) (x5 : Vec F S256x128 .f32) (x6 : Vec F S256x128 .f32) (x7 : Vec F S256x256 .f32) (x8 : Vec F S1x1024 .f32) (x9 : Vec F S1024x512 .bf16) (x10 : Vec F S1024x512 .bf16) (x11 : Vec F S1024x512 .bf16) (x12 : Vec F S1024x512 .bf16) (x13 : Vec F S1024x512 .bf16) (x14 : Vec F S1024x512 .bf16) (x15 : Vec F S1x512 .f32) (x16 : Vec F S4x128x128 .bf16) (x17 : Vec F S128x512 .f32) (x18 : Vec F S512x1024 .bf16) (x19 : Vec F S512x1024 .bf16) (x20 : Vec F S1024x1024 .bf16) (x21 : Vec F S1x1024 .f32) (x22 : Vec F S1024x4096 .bf16) (x23 : Vec F S4096x1024 .bf16) (x24 : Vec F S1x1024 .f32) (x25 : Vec F S1024x1024 .bf16) (x26 : Vec F S256x1024 .bf16) : Vec F S1x128x512 .f32 :=
  VO0_28.read (Elt F) (VO0_28.writes (Elt F) VO0_28.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 x17 x18 x19 x20 x21 x22 x23 x24 x25 x26).2.1)

/-- What both buffers hold after each point. -/
def outsAt0 (c : Dev nD) : (n : ℕ) → n < cfg0.N → Vec F S256x1024 .f32 × Vec F S1x128x512 .f32
  | 0, hn => (out0_A_27 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) scM0_0 (Memref.isWhole_whole _) scM0_1 (Memref.isWhole_whole _) scM0_2 (Memref.isWhole_whole _) scM0_3 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩) (iblk m c 26 ⟨0, hn⟩), out0_A_28 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) scM0_0 (Memref.isWhole_whole _) scM0_1 (Memref.isWhole_whole _) scM0_2 (Memref.isWhole_whole _) scM0_3 (Memref.isWhole_whole _) (fun h => (fun h => by (try dsimp only at h); omega) ((hcond0_0 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩) (iblk m c 26 ⟨0, hn⟩))
  | n + 1, hn =>
    if h0 : (n + 1) % 16 = 15 then
      (out0_B_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩), out0_B_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩))
    else
      (out0_A_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩), out0_A_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩))

theorem outsAt0_A (c : Dev nD) (t : Fin cfg0.N) (h0 : ¬t.val % 16 = 15) :
    outsAt0 m c t.val t.isLt = (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)) := by
  obtain ⟨n, hn⟩ := t
  cases n with
  | zero => exact rfl
  | succ n => exact (dif_neg h0).trans rfl

theorem outsAt0_B (c : Dev nD) (t : Fin cfg0.N) (h0 : t.val % 16 = 15) :
    outsAt0 m c t.val t.isLt = (out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t), out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)) := by
  obtain ⟨n, hn⟩ := t
  cases n with
  | zero => exact (by exfalso; (try dsimp only at h0); exact by omega)
  | succ n => exact (dif_pos h0).trans rfl

/-- The data of the pipeline: the arrays as found, each buffer after each point, and the shares of the arrays. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (outsAt0 m c t.val t.isLt).1
    | ⟨28, _⟩ => (outsAt0 m c t.val t.isLt).2
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = (outsAt0 m c t.val t.isLt).1 := by dsimp only [dats]
theorem after0_28 (c : Dev nD) (t : Fin cfg0.N) : (dats m 0 c).after 28 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t)

set_option maxHeartbeats 6400000 in
/-- The body, run at any point, leaves what `dats` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 16 = 15
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 20 t = owns (c : Thread nD τ) (ms0_20 t) fullShare ((dats m 0 c).after 20 t) from by
      unfold Dat.leavesExact; rw [liveAt0_20 t], after0_20]
    rw [show (dats m 0 c).leavesExact 21 t = owns (c : Thread nD τ) (ms0_21 t) fullShare ((dats m 0 c).after 21 t) from by
      unfold Dat.leavesExact; rw [liveAt0_21 t], after0_21]
    rw [show (dats m 0 c).leavesExact 22 t = owns (c : Thread nD τ) (ms0_22 t) fullShare ((dats m 0 c).after 22 t) from by
      unfold Dat.leavesExact; rw [liveAt0_22 t], after0_22]
    rw [show (dats m 0 c).leavesExact 23 t = owns (c : Thread nD τ) (ms0_23 t) fullShare ((dats m 0 c).after 23 t) from by
      unfold Dat.leavesExact; rw [liveAt0_23 t], after0_23]
    rw [show (dats m 0 c).leavesExact 24 t = owns (c : Thread nD τ) (ms0_24 t) fullShare ((dats m 0 c).after 24 t) from by
      unfold Dat.leavesExact; rw [liveAt0_24 t], after0_24]
    rw [show (dats m 0 c).leavesExact 25 t = owns (c : Thread nD τ) (ms0_25 t) fullShare ((dats m 0 c).after 25 t) from by
      unfold Dat.leavesExact; rw [liveAt0_25 t], after0_25]
    rw [show (dats m 0 c).leavesExact 26 t = owns (c : Thread nD τ) (ms0_26 t) fullShare ((dats m 0 c).after 26 t) from by
      unfold Dat.leavesExact; rw [liveAt0_26 t], after0_26]
    rw [show (dats m 0 c).leavesExact 27 t = owns (c : Thread nD τ) (ms0_27 t) fullShare ((dats m 0 c).after 27 t) from by
      unfold Dat.leavesExact; rw [liveAt0_27 t], after0_27]
    rw [show (dats m 0 c).leavesExact 28 t = owns (c : Thread nD τ) (ms0_28 t) fullShare ((dats m 0 c).after 28 t) from by
      unfold Dat.leavesExact; rw [liveAt0_28_B t ((hcond0_0 t).mpr h0)], after0_28]
    rw [outsAt0_B m c t h0]
    unfold out0_B_27 out0_B_28; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    isplitl [H28]; · iexists _; iexact H28
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, H25, H26, ⟨%e27, H27⟩, ⟨%e28, H28⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]
    · unfold owns; iexists _; isplitr
      swap; · iexact H27
      ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H28
    ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    rw [show (dats m 0 c).leavesExact 17 t = owns (c : Thread nD τ) (ms0_17 t) fullShare ((dats m 0 c).after 17 t) from by
      unfold Dat.leavesExact; rw [liveAt0_17 t], after0_17]
    rw [show (dats m 0 c).leavesExact 18 t = owns (c : Thread nD τ) (ms0_18 t) fullShare ((dats m 0 c).after 18 t) from by
      unfold Dat.leavesExact; rw [liveAt0_18 t], after0_18]
    rw [show (dats m 0 c).leavesExact 19 t = owns (c : Thread nD τ) (ms0_19 t) fullShare ((dats m 0 c).after 19 t) from by
      unfold Dat.leavesExact; rw [liveAt0_19 t], after0_19]
    rw [show (dats m 0 c).leavesExact 20 t = owns (c : Thread nD τ) (ms0_20 t) fullShare ((dats m 0 c).after 20 t) from by
      unfold Dat.leavesExact; rw [liveAt0_20 t], after0_20]
    rw [show (dats m 0 c).leavesExact 21 t = owns (c : Thread nD τ) (ms0_21 t) fullShare ((dats m 0 c).after 21 t) from by
      unfold Dat.leavesExact; rw [liveAt0_21 t], after0_21]
    rw [show (dats m 0 c).leavesExact 22 t = owns (c : Thread nD τ) (ms0_22 t) fullShare ((dats m 0 c).after 22 t) from by
      unfold Dat.leavesExact; rw [liveAt0_22 t], after0_22]
    rw [show (dats m 0 c).leavesExact 23 t = owns (c : Thread nD τ) (ms0_23 t) fullShare ((dats m 0 c).after 23 t) from by
      unfold Dat.leavesExact; rw [liveAt0_23 t], after0_23]
    rw [show (dats m 0 c).leavesExact 24 t = owns (c : Thread nD τ) (ms0_24 t) fullShare ((dats m 0 c).after 24 t) from by
      unfold Dat.leavesExact; rw [liveAt0_24 t], after0_24]
    rw [show (dats m 0 c).leavesExact 25 t = owns (c : Thread nD τ) (ms0_25 t) fullShare ((dats m 0 c).after 25 t) from by
      unfold Dat.leavesExact; rw [liveAt0_25 t], after0_25]
    rw [show (dats m 0 c).leavesExact 26 t = owns (c : Thread nD τ) (ms0_26 t) fullShare ((dats m 0 c).after 26 t) from by
      unfold Dat.leavesExact; rw [liveAt0_26 t], after0_26]
    rw [show (dats m 0 c).leavesExact 27 t = owns (c : Thread nD τ) (ms0_27 t) fullShare ((dats m 0 c).after 27 t) from by
      unfold Dat.leavesExact; rw [liveAt0_27 t], after0_27]
    rw [Dat.leavesExact_idle (dats m 0 c) 28 t (idleAt0_28_A t (fun h => h0 ((hcond0_0 t).mp h))) (noFlush0_28_A t (fun h => h0 ((hcond0_0 t).mp h)))]
    rw [outsAt0_A m c t h0]
    unfold out0_A_27; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    isplitl [H28]; · iexact H28
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, H25, H26, ⟨%e27, H27⟩, H28, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]
    · unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    iexists _; iexact H28

theorem defs₀_row (t : Fin cfg0.N) :
    defs₀ (F := F) .tc cfg0.body (cfg0.bodyArgs t (cfg0.slots t)) = bodyAt0 t := by
  unfold defs₀; rw [Defs.onTc_tc]

set_option maxHeartbeats 400000 in
/-- The body meets the obligation of the pipeline. Stating it over all 29 windows needs more than the usual budget. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch ends with the arrays that `dats` names. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The launch ends, keeps its arguments, and leaves no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.MergeIdeal.Mrg

end
-- ==== Proof.MPoint.lean ====
module

public import proofs.«01_k».proof.Proof.MBlk
public import proofs.«01_k».proof.Proof.MScr
public import proofs.«01_k».proof.Proof.MStep
public import proofs.«01_k».proof.Proof.MFrame

@[expose] public section

set_option maxRecDepth 16384

noncomputable section

/-! What one grid step leaves in the output's buffer: the token function at the step's rows. -/

namespace Cert.MergeIdeal.Mrg

open Cert.MergeIdeal Cert.MergeIdeal.Gen Idealize.ShloMosaic Idealize.ShloMosaic.TcCoe Idealize.SL.Sem

variable (m : (ℓ : Loc nD τ sig) → Buf (Elt Ideal) ℓ) (c : Dev nD)

/-- The weights that the arrays hold. -/
abbrev WW : Row.Weights := Row.weights (A8 m c) (A9 m c) (A10 m c) (A11 m c) (A12 m c) (A13 m c) (A14 m c) (A15 m c) (A16 m c) (A17 m c) (A18 m c)
  (A19 m c) (A20 m c) (A21 m c)

/-- The output row of a token. -/
abbrev OUT (s : Fin 16384) : Row.R 1024 :=
  Row.out (A0 m c) (A1 m c) (A2 m c) (A3 m c) (A4 m c) (A5 m c) (A6 m c) (A7 m c) (A8 m c) (A9 m c) (A10 m c) (A11 m c) (A12 m c) (A13 m c) (A14 m c)
    (A15 m c) (A16 m c) (A17 m c) (A18 m c) (A19 m c) (A20 m c) (A21 m c) s

variable (t : Fin cfg0.N)

/-- A load of part of a matrix, at an index. -/
theorem ld2 {n k n' k' : ℕ} (X : (⟨2, ![n, k]⟩ : Shape).Idx → EReal) (a b : ℕ) (inb) (i : Fin n') (j : Fin k') (i' : Fin n) (j' : Fin k)
    (hi : i'.val = a + i.val) (hj : j'.val = b + j.val) :
    View.ld (Val := Elt Ideal) (e' := .f32) X (Rect.unit (s := ⟨2, ![n, k]⟩) ![a, b] ![n', k'] inb) (ix2 i j) = X (ix2 i' j') := by
  refine congrArg X (funext fun x => ?_)
  match x with
  | ⟨0, _⟩ => exact Fin.ext (show a + 1 * i.val = i'.val by omega)
  | ⟨1, _⟩ => exact Fin.ext (show b + 1 * j.val = j'.val by omega)

/-- A load of one matrix of four, at an index. -/
theorem ld3 (X : S4x128x128.Idx → EReal) (a : ℕ) (inb) (i j : Fin 128) (g : Fin 4) (hg : g.val = a) :
    View.ld (Val := Elt Ideal) (e' := .f32) X (Rect.unit (s := S4x128x128) ![a, 0, 0] ![1, 128, 128] inb) (ix3 (0 : Fin 1) i j) = X (ix3 g i j) := by
  refine congrArg X (funext fun x => ?_)
  match x with
  | ⟨0, _⟩ => exact Fin.ext (show a + 1 * 0 = g.val by omega)
  | ⟨1, _⟩ => exact Fin.ext (show 0 + 1 * i.val = i.val by omega)
  | ⟨2, _⟩ => exact Fin.ext (show 0 + 1 * j.val = j.val by omega)

theorem holds : Holds (iblk m c 8 t) (iblk m c 9 t) (iblk m c 10 t) (iblk m c 15 t)
    (View.ld (iblk m c 16 t) (Rect.unit ![0, 0, 0] ![1, 128, 128] inb_S4x128x128_S1x128x128_0_0_0))
    (View.ld (iblk m c 16 t) (Rect.unit ![1, 0, 0] ![1, 128, 128] inb_S4x128x128_S1x128x128_1_0_0))
    (View.ld (iblk m c 16 t) (Rect.unit ![2, 0, 0] ![1, 128, 128] inb_S4x128x128_S1x128x128_2_0_0))
    (View.ld (iblk m c 16 t) (Rect.unit ![3, 0, 0] ![1, 128, 128] inb_S4x128x128_S1x128x128_3_0_0)) (iblk m c 17 t)
    (iblk m c 11 t) (iblk m c 12 t) (iblk m c 13 t) (iblk m c 14 t) (iblk m c 18 t) (iblk m c 19 t) (iblk m c 20 t) (iblk m c 21 t)
    (View.ld (iblk m c 22 t) (Rect.unit ![0, 0] ![1024, 1024] inb_S1024x4096_S1024x1024_0_0))
    (View.ld (iblk m c 23 t) (Rect.unit ![0, 0] ![1024, 1024] inb_S4096x1024_S1024x1024_0_0))
    (View.ld (iblk m c 22 t) (Rect.unit ![0, 1024] ![1024, 1024] inb_S1024x4096_S1024x1024_0_1024))
    (View.ld (iblk m c 23 t) (Rect.unit ![1024, 0] ![1024, 1024] inb_S4096x1024_S1024x1024_1024_0))
    (View.ld (iblk m c 22 t) (Rect.unit ![0, 2048] ![1024, 1024] inb_S1024x4096_S1024x1024_0_2048))
    (View.ld (iblk m c 23 t) (Rect.unit ![2048, 0] ![1024, 1024] inb_S4096x1024_S1024x1024_2048_0))
    (View.ld (iblk m c 22 t) (Rect.unit ![0, 3072] ![1024, 1024] inb_S1024x4096_S1024x1024_0_3072))
    (View.ld (iblk m c 23 t) (Rect.unit ![3072, 0] ![1024, 1024] inb_S4096x1024_S1024x1024_3072_0))
    (iblk m c 24 t) (iblk m c 25 t) (iblk m c 26 t) (WW m c) where
  gm := funext fun l => b8 m c t 0 l
  wu := funext fun k => funext fun l => b9 m c t k l
  wv := funext fun k => funext fun l => b10 m c t k l
  gv := funext fun l => b15 m c t 0 l
  w0 i j := (ld3 _ 0 _ i j 0 rfl).trans (b16 m c t 0 i j)
  w1 i j := (ld3 _ 1 _ i j 1 rfl).trans (b16 m c t 1 i j)
  w2 i j := (ld3 _ 2 _ i j 2 rfl).trans (b16 m c t 2 i j)
  w3 i j := (ld3 _ 3 _ i j 3 rfl).trans (b16 m c t 3 i j)
  b := funext fun k => funext fun l => b17 m c t k l
  ga0 k l := b11 m c t k l
  ga1 k l := b12 m c t k l
  gb0 k l := b13 m c t k l
  gb1 k l := b14 m c t k l
  wa := funext fun k => funext fun l => b18 m c t k l
  wb := funext fun k => funext fun l => b19 m c t k l
  wo := funext fun k => funext fun l => b20 m c t k l
  gf := funext fun l => b21 m c t 0 l
  e0 k j := (ld2 _ 0 0 _ k j k ⟨j.val, by omega⟩ (by omega) (by show j.val = 0 + j.val; omega)).trans (b22 m c t k _)
  e1 k j := (ld2 _ 0 1024 _ k j k ⟨1024 + j.val, by omega⟩ (by omega) rfl).trans (b22 m c t k _)
  e2 k j := (ld2 _ 0 2048 _ k j k ⟨2048 + j.val, by omega⟩ (by omega) rfl).trans (b22 m c t k _)
  e3 k j := (ld2 _ 0 3072 _ k j k ⟨3072 + j.val, by omega⟩ (by omega) rfl).trans (b22 m c t k _)
  f0 k j := (ld2 _ 0 0 _ k j ⟨k.val, by omega⟩ j (by show k.val = 0 + k.val; omega) (by omega)).trans (b23 m c t _ j)
  f1 k j := (ld2 _ 1024 0 _ k j ⟨1024 + k.val, by omega⟩ j rfl (by omega)).trans (b23 m c t _ j)
  f2 k j := (ld2 _ 2048 0 _ k j ⟨2048 + k.val, by omega⟩ j rfl (by omega)).trans (b23 m c t _ j)
  f3 k j := (ld2 _ 3072 0 _ k j ⟨3072 + k.val, by omega⟩ j rfl (by omega)).trans (b23 m c t _ j)
  gp := funext fun l => b24 m c t 0 l
  wg := funext fun k => funext fun l => b25 m c t k l
  wp := funext fun k => funext fun l => b26 m c t k l

theorem at_src (d n : ℕ) (h : d * n = 256) (hd : d ∣ 256) (r : Fin 256) :
    (at_ t (from_ d n r.val)).val = 256 * ((at_ t r).val / 256) + (n * ((at_ t r).val % d) + (at_ t r).val % 256 / d) := by
  have hd0 : 0 < d := Nat.pos_of_dvd_of_pos hd (by decide)
  have e1 : (t.val * 256 + r.val) / 256 = t.val := by omega
  have e2 : (t.val * 256 + r.val) % 256 = r.val := by omega
  have e3 : (t.val * 256 + r.val) % d = r.val % d := by rw [← Nat.mod_mod_of_dvd _ hd, e2]
  have e4 : n * (r.val % d) + r.val / d < 256 := by
    have a : r.val / d < n := Nat.div_lt_of_lt_mul (by rw [h]; exact r.isLt)
    have b : r.val % d + 1 ≤ d := Nat.mod_lt _ hd0
    have e := Nat.mul_le_mul_left n b
    rw [Nat.mul_add, Nat.mul_comm n d, h] at e
    omega
  show t.val * 256 + (n * (r.val % d) + r.val / d) % 256 = _
  show _ = 256 * ((t.val * 256 + r.val) / 256) + (n * ((t.val * 256 + r.val) % d) + (t.val * 256 + r.val) % 256 / d)
  rw [e1, e2, e3, Nat.mod_eq_of_lt e4, Nat.mul_comm]

theorem at_src4 (r : Fin 256) : at_ t (from_ 4 64 r.val) = Row.src4 (at_ t r) := Fin.ext (at_src t 4 64 rfl (by decide) r)

theorem at_src16 (r : Fin 256) : at_ t (from_ 16 16 r.val) = Row.src16 (at_ t r) := Fin.ext (at_src t 16 16 rfl (by decide) r)

/-- One slab, read back in order. -/
theorem slab_at {sp : Space} (v : View sig .tc sp S4x256x128 .f32) (V : FVec Ideal S256x512 .bf16) (d n : ℕ) (hd : 0 < d) (hdn : d * n = 256)
    (L : List (View.Piece (Elt Ideal) S4x256x128 .f32)) (hL : View.PiecesOf (G3 V d n) L) (k : Fin 4)
    (hk : ((List.range d).all fun r => L.any fun p => hits3 k.val r d n p.1) = true)
    (o : Fin 3 → ℕ) (ho : o = ![k.val, 0, 0]) (inb : ∀ a, o a + (![1, 256, 128] : Fin 3 → ℕ) a ≤ S4x256x128.size a) (r : Fin 256) (q : Fin 128)
    (j : Fin 512) (hj : j.val = 128 * k.val + q.val) :
    k0_pay40 (F := Ideal) (v.readCov L (Rect.unit (s := S4x256x128) o ![1, 256, 128] inb).toLoadRect) (ix2 r q) = V (ix2 (from_ d n r.val) j) := by
  have e : ∀ X : FVec Ideal S1x256x128 .f32, k0_pay40 (F := Ideal) X (ix2 r q) = X (ix3 (0 : Fin 1) r q) := by
    intro X
    pointwise [k0_pay40]
  rw [e]
  refine (read3 v V d n hd hdn L hL k hk o ho inb r q).trans ?_
  refine congrArg V (congrArg₂ ix2 rfl (Fin.ext ?_))
  show (128 * k.val + q.val) % 512 = j.val
  omega

/-- A step's rows are its tokens' outputs, whatever buffers they come from. -/
theorem point (s0 s1 s2 s3 u0 u1 u2 u3 v0 v1 v2 v3 l1 l2 : FVec Ideal S256x128 .f32)
    (ha : Slabs (fun r l => (iblk m c 1 t : FVec Ideal S256x512 .bf16) (ix2 r l)) s0 s1 s2 s3)
    (hb : Slabs (fun r l => (iblk m c 2 t : FVec Ideal S256x512 .bf16) (ix2 (from_ 4 64 r.val) l)) u0 u1 u2 u3)
    (hc : Slabs (fun r l => (iblk m c 3 t : FVec Ideal S256x512 .bf16) (ix2 (from_ 16 16 r.val) l)) v0 v1 v2 v3)
    (h1 : ∀ r q, l1 (ix2 r q) = (iblk m c 5 t : FVec Ideal S256x128 .f32) (ix2 (from_ 4 64 r.val) q))
    (h2 : ∀ r q, l2 (ix2 r q) = (iblk m c 6 t : FVec Ideal S256x128 .f32) (ix2 (from_ 16 16 r.val) q)) (r : Fin 256) :
    row (YY (iblk m c 0 t) (iblk m c 8 t) (iblk m c 9 t) (iblk m c 10 t) (iblk m c 15 t)
      (View.ld (iblk m c 16 t) (Rect.unit ![0, 0, 0] ![1, 128, 128] inb_S4x128x128_S1x128x128_0_0_0))
      (View.ld (iblk m c 16 t) (Rect.unit ![1, 0, 0] ![1, 128, 128] inb_S4x128x128_S1x128x128_1_0_0))
      (View.ld (iblk m c 16 t) (Rect.unit ![2, 0, 0] ![1, 128, 128] inb_S4x128x128_S1x128x128_2_0_0))
      (View.ld (iblk m c 16 t) (Rect.unit ![3, 0, 0] ![1, 128, 128] inb_S4x128x128_S1x128x128_3_0_0)) (iblk m c 17 t)
      s0 s1 s2 s3 u0 u1 u2 u3 v0 v1 v2 v3 (iblk m c 4 t) l1 l2
      (iblk m c 11 t) (iblk m c 12 t) (iblk m c 13 t) (iblk m c 14 t) (iblk m c 18 t) (iblk m c 19 t) (iblk m c 20 t) (iblk m c 21 t)
      (View.ld (iblk m c 22 t) (Rect.unit ![0, 0] ![1024, 1024] inb_S1024x4096_S1024x1024_0_0))
      (View.ld (iblk m c 23 t) (Rect.unit ![0, 0] ![1024, 1024] inb_S4096x1024_S1024x1024_0_0))
      (View.ld (iblk m c 22 t) (Rect.unit ![0, 1024] ![1024, 1024] inb_S1024x4096_S1024x1024_0_1024))
      (View.ld (iblk m c 23 t) (Rect.unit ![1024, 0] ![1024, 1024] inb_S4096x1024_S1024x1024_1024_0))
      (View.ld (iblk m c 22 t) (Rect.unit ![0, 2048] ![1024, 1024] inb_S1024x4096_S1024x1024_0_2048))
      (View.ld (iblk m c 23 t) (Rect.unit ![2048, 0] ![1024, 1024] inb_S4096x1024_S1024x1024_2048_0))
      (View.ld (iblk m c 22 t) (Rect.unit ![0, 3072] ![1024, 1024] inb_S1024x4096_S1024x1024_0_3072))
      (View.ld (iblk m c 23 t) (Rect.unit ![3072, 0] ![1024, 1024] inb_S4096x1024_S1024x1024_3072_0))
      (iblk m c 24 t) (iblk m c 25 t) (iblk m c 7 t) (iblk m c 26 t)) r = OUT m c (at_ t r) := by
  have ht := lt64 t
  refine (step_at _ _ _ _ _ _ _ _ _ _ _ _ _ _ _ _ _ _ _ _ _ _ _ _ _ _ _ _ _ _ _ _ _ _ _ _ _ _ _ _ _ _ _ _ _ _ (holds m c t) _ _ _ ha hb hc r).trans ?_
  have e0 : ∀ r, row (iblk m c 0 t : FVec Ideal S256x1024 .f32) r = Row.mat (A0 m c) (at_ t r) := fun r => funext fun l => b0 m c t r l
  have ec : ∀ s, at_ t (chunk r s) = Row.chunk (at_ t r) s := fun s =>
    Fin.ext (by show t.val * 256 + (128 * (r.val / 128) + s.val) = 128 * ((t.val * 256 + r.val) / 128) + s.val; omega)
  have ep : (⟨r.val % 128, by omega⟩ : Fin 128) = Row.place (at_ t r) := Fin.ext (by show r.val % 128 = (t.val * 256 + r.val) % 128; omega)
  have eT : (⟨row (iblk m c 0 t : FVec Ideal S256x1024 .f32) r, fun l => (iblk m c 1 t : FVec Ideal S256x512 .bf16) (ix2 r l),
      fun l => (iblk m c 2 t : FVec Ideal S256x512 .bf16) (ix2 (from_ 4 64 r.val) l), fun l => (iblk m c 3 t : FVec Ideal S256x512 .bf16) (ix2 (from_ 16 16 r.val) l),
      heads (iblk m c 4 t) r, heads l1 r, heads l2 r, row (iblk m c 7 t : FVec Ideal S256x256 .f32) r⟩ : Row.Token)
      = Row.token (A0 m c) (A1 m c) (A2 m c) (A3 m c) (A4 m c) (A5 m c) (A6 m c) (A7 m c) (at_ t r) := by
    have f1 : (fun l => (iblk m c 1 t : FVec Ideal S256x512 .bf16) (ix2 r l)) = Row.mat (A1 m c) (at_ t r) := funext fun l => b1 m c t r l
    have f2 : (fun l => (iblk m c 2 t : FVec Ideal S256x512 .bf16) (ix2 (from_ 4 64 r.val) l)) = Row.mat (A2 m c) (Row.src4 (at_ t r)) :=
      funext fun l => (b2 m c t _ l).trans (by rw [at_src4]; rfl)
    have f3 : (fun l => (iblk m c 3 t : FVec Ideal S256x512 .bf16) (ix2 (from_ 16 16 r.val) l)) = Row.mat (A3 m c) (Row.src16 (at_ t r)) :=
      funext fun l => (b3 m c t _ l).trans (by rw [at_src16]; rfl)
    have f4 : heads (iblk m c 4 t) r = Row.heads (A4 m c) (at_ t r) := funext fun k => b4 m c t r _
    have f5 : heads l1 r = Row.heads (A5 m c) (Row.src4 (at_ t r)) :=
      funext fun k => (h1 r _).trans ((b5 m c t _ _).trans (by rw [at_src4]; rfl))
    have f6 : heads l2 r = Row.heads (A6 m c) (Row.src16 (at_ t r)) :=
      funext fun k => (h2 r _).trans ((b6 m c t _ _).trans (by rw [at_src16]; rfl))
    have f7 : row (iblk m c 7 t : FVec Ideal S256x256 .f32) r = Row.mat (A7 m c) (at_ t r) := funext fun l => b7 m c t r l
    rw [e0, f1, f2, f3, f4, f5, f6, f7]
    rfl
  show (WW m c).y _ _ _ = (WW m c).y _ _ _
  rw [eT]
  simp only [e0, ec, ep]

end Cert.MergeIdeal.Mrg
-- ==== Proof.MFinal.lean ====
module

public import proofs.«01_k».proof.Proof.MPoint
public import Idealize.ShloMosaic.Lib.Pipeline.ValueKit
public import Idealize.ShloMosaic.Lib.Pipeline.ReadBack

@[expose] public section

set_option maxRecDepth 16384

noncomputable section

/-! The two arrays after the merge's run: every step's buffer opened, its in-order slabs read back, and the blocks put together. -/

namespace Cert.MergeIdeal.Mrg

open Cert.MergeIdeal Cert.MergeIdeal.Gen Idealize.ShloMosaic Idealize.ShloMosaic.TcCoe Idealize.SL.Sem

variable (m : (ℓ : Loc nD τ sig) → Buf (Elt Ideal) ℓ) (c : Dev nD)

/-- A slab of group 0, loaded in place. -/
theorem slab0 (V : FVec Ideal S256x512 .bf16) (k : Fin 4) (o : Fin 2 → ℕ) (ho : o = ![0, 128 * k.val]) (inb) (r : Fin 256) (q : Fin 128) (j : Fin 512)
    (hj : j.val = 128 * k.val + q.val) :
    k0_pay14 (F := Ideal) (View.ld (Val := Elt Ideal) (e' := .bf16) V (Rect.unit (s := S256x512) o ![256, 128] inb)) (ix2 r q) = V (ix2 r j) := by
  subst ho
  exact ld2 V 0 (128 * k.val) inb r q r j (by omega) hj

/-- Every slab of group 0. -/
theorem slabs0 (V : FVec Ideal S256x512 .bf16) (i0 i1 i2 i3) :
    Slabs (fun r l => V (ix2 r l))
      (k0_pay14 (F := Ideal) (View.ld (Val := Elt Ideal) (e' := .bf16) V (Rect.unit (s := S256x512) ![0, 0] ![256, 128] i0)))
      (k0_pay14 (F := Ideal) (View.ld (Val := Elt Ideal) (e' := .bf16) V (Rect.unit (s := S256x512) ![0, 128] ![256, 128] i1)))
      (k0_pay14 (F := Ideal) (View.ld (Val := Elt Ideal) (e' := .bf16) V (Rect.unit (s := S256x512) ![0, 256] ![256, 128] i2)))
      (k0_pay14 (F := Ideal) (View.ld (Val := Elt Ideal) (e' := .bf16) V (Rect.unit (s := S256x512) ![0, 384] ![256, 128] i3))) := fun r q =>
  ⟨slab0 V 0 _ rfl i0 r q _ (Nat.zero_add _).symm, slab0 V 1 _ rfl i1 r q _ rfl, slab0 V 2 _ rfl i2 r q _ rfl, slab0 V 3 _ rfl i3 r q _ rfl⟩

set_option maxHeartbeats 4000000 in
/-- A step leaves its tokens' outputs, whether it ends a prompt's window or not. -/
theorem point27 (t : Fin cfg0.N) (r : Fin 256) (l : Fin 1024) : (outsAt0 m c t.val t.isLt).1 (ix2 r l) = OUT m c (at_ t r) l := by
  by_cases h0 : t.val % 16 = 15
  on_goal 1 => rw [outsAt0_B m c t h0]
  on_goal 2 => rw [outsAt0_A m c t h0]
  all_goals
    frame_open
    simp (disch := decide) only [↓ View.readCov_skip, ↓ View.readCov_cons_toLoadRect, ↓ View.readCov_fill]
    frame_out
    refine congrFun (point m c t _ _ _ _ _ _ _ _ _ _ _ _ _ _ (slabs0 (iblk m c 1 t) _ _ _ _)
      (fun r q => ⟨slab_at _ (iblk m c 2 t) 4 64 (by decide) rfl _ ?_ 0 rfl _ rfl _ r q _ (Nat.zero_add _).symm,
        slab_at _ (iblk m c 2 t) 4 64 (by decide) rfl _ ?_ 1 rfl _ rfl _ r q _ rfl, slab_at _ (iblk m c 2 t) 4 64 (by decide) rfl _ ?_ 2 rfl _ rfl _ r q _ rfl,
        slab_at _ (iblk m c 2 t) 4 64 (by decide) rfl _ ?_ 3 rfl _ rfl _ r q _ rfl⟩)
      (fun r q => ⟨slab_at _ (iblk m c 3 t) 16 16 (by decide) rfl _ ?_ 0 rfl _ rfl _ r q _ (Nat.zero_add _).symm,
        slab_at _ (iblk m c 3 t) 16 16 (by decide) rfl _ ?_ 1 rfl _ rfl _ r q _ rfl, slab_at _ (iblk m c 3 t) 16 16 (by decide) rfl _ ?_ 2 rfl _ rfl _ r q _ rfl,
        slab_at _ (iblk m c 3 t) 16 16 (by decide) rfl _ ?_ 3 rfl _ rfl _ r q _ rfl⟩)
      (fun r q => read2 _ (iblk m c 5 t) 4 64 (by decide) rfl _ ?_ rfl _ r q) (fun r q => read2 _ (iblk m c 6 t) 16 16 (by decide) rfl _ ?_ rfl _ r q) r) l
    all_goals
      repeat' first
        | exact trivial
        | refine ⟨fun x => piece64 (iblk m c 2 t) _ _ _ _ (by decide) (by decide) (by decide) (by decide) _ _ _ x, ?_⟩
        | refine ⟨fun x => piece16 (iblk m c 3 t) _ _ _ _ (by decide) (by decide) (by decide) (by decide) _ _ _ x, ?_⟩
        | refine ⟨fun x => lpiece64 (iblk m c 5 t) _ _ (by decide) (by decide) _ _ _ x, ?_⟩
        | refine ⟨fun x => lpiece16 (iblk m c 6 t) _ _ (by decide) (by decide) _ _ _ x, ?_⟩

set_option maxHeartbeats 4000000 in
/-- The last step of a prompt leaves the values of its last 128 tokens. -/
theorem point28 (t : Fin cfg0.N) (h0 : t.val % 16 = 15) (s : Fin 128) (l : Fin 512) :
    (outsAt0 m c t.val t.isLt).2 (ix3 (0 : Fin 1) s l)
      = Row.outVa (A0 m c) (A8 m c) (A9 m c) (A10 m c) (at_ t ⟨128 + s.val, by omega⟩) l := by
  rw [outsAt0_B m c t h0]
  frame_open
  simp (disch := decide) only [↓ View.readCov_skip, ↓ View.readCov_cons_toLoadRect, ↓ View.readCov_fill]
  frame_out
  have e : ∀ u v w, k0_pay7 (F := Ideal) u v w (ix3 (0 : Fin 1) s l) = k0_pay8 (F := Ideal) u v w (ix2 (⟨128 + s.val, by omega⟩ : Fin 256) l) := by
    intro u v w
    pointwise [k0_pay7, k0_pay8]
  rw [e]
  have H := holds m c t
  have ex : row (iblk m c 0 t : FVec Ideal S256x1024 .f32) ⟨128 + s.val, by omega⟩ = Row.mat (A0 m c) (at_ t ⟨128 + s.val, by omega⟩) :=
    funext fun k => b0 m c t _ k
  exact congrFun ((values_at (iblk m c 0 t) (iblk m c 8 t) (iblk m c 10 t) (iblk m c 15 t) (WW m c) H.gm H.wv H.gv ⟨128 + s.val, by omega⟩).trans
    (congrArg (WW m c).va ex)) l

/-- The output's array. -/
theorem final27 : (dats m 0 c).arrAt 27 (cfgs 0).N = fun i : S16384x1024.Idx => OUT m c (i 0) (i 1) := by
  refine (dats m 0 c).arrAt_eq_of_covers 27 _ (by decide +kernel) fun t _ y => ?_
  blk_simp
  rw [after0_27]
  have e0 : (win0_27.blk t).view.emb y 0 = at_ t (y 0) := Fin.ext (by blk_simp [idx t, at_])
  have e1 : (win0_27.blk t).view.emb y 1 = y 1 := Fin.ext (by blk_simp [idx t])
  rw [e0, e1]
  exact (congrArg _ (ix2_eta y).symm).trans (point27 m c t (y 0) (y 1))

theorem ends : ∀ t : Fin cfg0.N, (cfg0.win 28).flush t = true → t.val % 16 = 15 := by decide +kernel

/-- The values' array: of every prompt, the last 128 tokens. -/
theorem final28 : (dats m 0 c).arrAt 28 (cfgs 0).N
    = fun i : S4x128x512.Idx => Row.outVa (A0 m c) (A8 m c) (A9 m c) (A10 m c) ⟨(i 0).val * 4096 + (3968 + (i 1).val), by
        have a : (i 0).val < 4 := (i 0).isLt
        have b : (i 1).val < 128 := (i 1).isLt
        omega⟩ (i 2) := by
  refine (dats m 0 c).arrAt_eq_of_covers 28 _ (by decide +kernel) fun t hf y => ?_
  have h0 := ends t hf
  blk_simp
  rw [after0_28]
  have ht := lt64 t
  idx_vars y
  obtain rfl : y0 = 0 := Fin.ext (by omega)
  refine (point28 m c t h0 y1 y2).trans ?_
  refine congrArg₂ (Row.outVa (A0 m c) (A8 m c) (A9 m c) (A10 m c)) (Fin.ext ?_) (Fin.ext ?_)
  · blk_simp [idx t, at_]
    dsimp only
    omega
  · blk_simp [idx t]

end Cert.MergeIdeal.Mrg
-- ==== Proof.MRef.lean ====
module

public import proofs.«01_k».proof.Proof.Gen.MergeReferenceIdeal.Read
public import proofs.«01_k».proof.Proof.Row

@[expose] public section

set_option maxRecDepth 16384

noncomputable section

/-! The reference's arrays, a token (row) at a time. -/

namespace Cert.MergeReferenceIdeal.Mrg

open Cert.MergeReferenceIdeal Cert.MergeReferenceIdeal.Read Idealize.ShloMosaic Idealize.ShloMosaic.TcCoe Idealize.SL.Sem Row

theorem h_at (x0 : FVec Ideal S16384x1024 .f32) (x8 : FVec Ideal S1x1024 .f32) (t : Fin 16384) (c : Fin 1024) :
    val_main_v11 (F := Ideal) x0 x8 (ix2 t c : S16384x1024.Idx) = rms n1024 (mat x0 t) (mat x8 0) c := by
  pointwise [val_main_v11, val_main_v10, val_main_v9, val_main_v8, val_main_v7, val_main_v6, val_main_v5, val_main_v4, val_main_v3, val_main_v2, val_main_v1, val_main_v0, val_main_cst, val_main_cst_0, val_main_cst_1, rms, mat]

theorem cube (z : EReal) : z * z * z = z * (z * z) := by rw [mul_comm]

theorem u_at (x0 : FVec Ideal S16384x1024 .f32) (x8 : FVec Ideal S1x1024 .f32) (x9 : FVec Ideal S1024x7680 .bf16) (t : Fin 16384) (c : Fin 512) :
    val_main_v27 (F := Ideal) x0 x8 x9 (ix2 t c : S16384x512.Idx)
      = gelu (lin (rms n1024 (mat x0 t) (mat x8 0)) (fun k c => mat x9 k ⟨c, by omega⟩) c) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_cst_2, val_main_cst_3, val_main_cst_4, val_main_cst_5, h_at, cube, gelu, bend, lin, mat]

theorem g_at (x0 : FVec Ideal S16384x1024 .f32) (x8 : FVec Ideal S1x1024 .f32) (x9 : FVec Ideal S1024x7680 .bf16) (t : Fin 16384) (c : Fin 512) :
    val_main_v42 (F := Ideal) x0 x8 x9 (ix2 t c : S16384x512.Idx)
      = gelu (lin (rms n1024 (mat x0 t) (mat x8 0)) (fun k c => mat x9 k ⟨512 + c, by omega⟩) c) := by
  pointwise [val_main_v42, val_main_v41, val_main_v40, val_main_v39, val_main_v38, val_main_v37, val_main_v36, val_main_v35, val_main_v34, val_main_v33, val_main_v32, val_main_v31, val_main_v30, val_main_v29, val_main_v28, val_main_v12, val_main_cst_6, val_main_cst_7, val_main_cst_8, val_main_cst_9, h_at, cube, gelu, bend, lin, mat]

theorem va_at (x0 : FVec Ideal S16384x1024 .f32) (x8 : FVec Ideal S1x1024 .f32) (x9 : FVec Ideal S1024x7680 .bf16)
    (x10 : FVec Ideal S1x512 .f32) (t : Fin 16384) (c : Fin 512) :
    val_main_v54 (F := Ideal) x0 x8 x9 x10 (ix2 t c : S16384x512.Idx)
      = rms n512 (fun c => gelu (lin (rms n1024 (mat x0 t) (mat x8 0)) (fun k c => mat x9 k ⟨512 + c, by omega⟩) c)) (mat x10 0) c := by
  pointwise [val_main_v54, val_main_v53, val_main_v52, val_main_v51, val_main_v50, val_main_v49, val_main_v48, val_main_v47, val_main_v46, val_main_v45, val_main_v44, val_main_v43, val_main_cst_10, val_main_cst_11, val_main_cst_12, g_at, rms, mat]

theorem ga_at (x0 : FVec Ideal S16384x1024 .f32) (x8 : FVec Ideal S1x1024 .f32) (x9 : FVec Ideal S1024x7680 .bf16) (t : Fin 16384) (c : Fin 1024) :
    val_main_v62 (F := Ideal) x0 x8 x9 (ix2 t c : S16384x1024.Idx)
      = Ideal.logistic (lin (rms n1024 (mat x0 t) (mat x8 0)) (fun k c => mat x9 k ⟨5632 + c, by omega⟩) c) := by
  pointwise [val_main_v62, val_main_v61, val_main_v60, val_main_v59, val_main_v58, val_main_v57, val_main_v56, val_main_v55, val_main_v12, val_main_cst_13, val_main_cst_14, h_at, lin, mat, Ideal.logistic]

theorem gb_at (x0 : FVec Ideal S16384x1024 .f32) (x8 : FVec Ideal S1x1024 .f32) (x9 : FVec Ideal S1024x7680 .bf16) (t : Fin 16384) (c : Fin 1024) :
    val_main_v70 (F := Ideal) x0 x8 x9 (ix2 t c : S16384x1024.Idx)
      = Ideal.logistic (lin (rms n1024 (mat x0 t) (mat x8 0)) (fun k c => mat x9 k ⟨6656 + c, by omega⟩) c) := by
  pointwise [val_main_v70, val_main_v69, val_main_v68, val_main_v67, val_main_v66, val_main_v65, val_main_v64, val_main_v63, val_main_v12, val_main_cst_15, val_main_cst_16, h_at, lin, mat, Ideal.logistic]

theorem ge_val : ∀ t s : Fin 128, IntOp.cmpi .sge (BitVec.ofNat 32 t.val) (BitVec.ofNat 32 s.val) = BitVec.ofBool (decide (s ≤ t)) := by
  decide +kernel

theorem tri_at (x11 : FVec Ideal S4x128x128 .bf16) (g : Fin 4) (r s : Fin 128) :
    val_main_v72 (F := Ideal) x11 (ix3 g r s : S4x128x128.Idx) = if s ≤ r then x11 (ix3 g r s) else 0 := by
  pointwise [val_main_v72, val_main_v71, val_main_call0_v6, val_main_call0_cst, val_main_call0_v5, val_main_call0_v4, val_main_call0_v3, val_main_call0_v2, val_main_call0_v1, val_main_call0_c, val_main_call0_v0]
  rw [show IntOp.addi (BitVec.ofNat 32 r.val) 0#32 = BitVec.ofNat 32 r.val from BitVec.add_zero _, ge_val]
  by_cases h : s ≤ r <;> simp [h, Scalar.select]

theorem mix_at (x0 : FVec Ideal S16384x1024 .f32) (x8 : FVec Ideal S1x1024 .f32) (x9 : FVec Ideal S1024x7680 .bf16)
    (x10 : FVec Ideal S1x512 .f32) (x11 : FVec Ideal S4x128x128 .bf16) (x12 : FVec Ideal S128x512 .f32) (t : Fin 16384) (c : Fin 512) :
    val_main_v80 (F := Ideal) x0 x8 x9 x10 x11 x12 (ix2 t c : S16384x512.Idx)
      = mix (fun g r s => x11 (ix3 g r s)) (mat x12 ⟨t.val % 128, by omega⟩)
          (fun s c => val_main_v54 (F := Ideal) x0 x8 x9 x10 (ix2 (chunk t s) c)) ⟨t.val % 128, by omega⟩ c := by
  pointwise [val_main_v80, val_main_v79, val_main_v78, val_main_v77, val_main_v76, val_main_v75, val_main_v74, val_main_v73, tri_at, mat, mix]
  refine congrArg (· + x12 (ix2 ⟨t.val % 128, _⟩ c)) (Finset.sum_congr rfl fun s _ => (mul_comm _ _).trans ?_)
  refine congrArg (fun k => _ * val_main_v54 (F := Ideal) x0 x8 x9 x10 (ix2 k c)) (Fin.ext ?_)
  show t.val / 128 * 128 + s.val = 128 * (t.val / 128) + s.val
  omega

theorem src4_eq (t : Fin 16384) (h : t.val / 256 * 256 + t.val % 4 * 64 + t.val / 4 % 64 < 16384) :
    (⟨t.val / 256 * 256 + t.val % 4 * 64 + t.val / 4 % 64, h⟩ : Fin 16384) = src4 t :=
  Fin.ext (by show t.val / 256 * 256 + t.val % 4 * 64 + t.val / 4 % 64 = 256 * (t.val / 256) + (64 * (t.val % 4) + t.val % 256 / 4); omega)

theorem src16_eq (t : Fin 16384) (h : t.val / 256 * 256 + t.val % 16 * 16 + t.val / 16 % 16 < 16384) :
    (⟨t.val / 256 * 256 + t.val % 16 * 16 + t.val / 16 % 16, h⟩ : Fin 16384) = src16 t :=
  Fin.ext (by show t.val / 256 * 256 + t.val % 16 * 16 + t.val / 16 % 16 = 256 * (t.val / 256) + (16 * (t.val % 16) + t.val % 256 / 16); omega)

theorem l1_at (x : FVec Ideal S16384x128 .f32) (t : Fin 16384) (c : Fin 8) :
    val_main_v86 (F := Ideal) x (ix2 t c : S16384x8.Idx) = heads x (src4 t) c := by
  pointwise [val_main_v86, val_main_v85, val_main_v84, val_main_v83]
  exact congrArg (fun k => x (ix2 k ⟨c.val, _⟩)) (src4_eq t _)

theorem l2_at (x : FVec Ideal S16384x128 .f32) (t : Fin 16384) (c : Fin 8) :
    val_main_v90 (F := Ideal) x (ix2 t c : S16384x8.Idx) = heads x (src16 t) c := by
  pointwise [val_main_v90, val_main_v89, val_main_v88, val_main_v87]
  exact congrArg (fun k => x (ix2 k ⟨c.val, _⟩)) (src16_eq t _)

theorem o1_at (x : FVec Ideal S16384x512 .bf16) (t : Fin 16384) (c : Fin 512) :
    val_main_v108 (F := Ideal) x (ix2 t c : S16384x512.Idx) = mat x (src4 t) c := by
  pointwise [val_main_v108, val_main_v107, val_main_v106, val_main_v105]
  exact congrArg (fun k => x (ix2 k c)) (src4_eq t _)

theorem o2_at (x : FVec Ideal S16384x512 .bf16) (t : Fin 16384) (c : Fin 512) :
    val_main_v112 (F := Ideal) x (ix2 t c : S16384x512.Idx) = mat x (src16 t) c := by
  pointwise [val_main_v112, val_main_v111, val_main_v110, val_main_v109]
  exact congrArg (fun k => x (ix2 k c)) (src16_eq t _)

theorem lse_at (x4 x5 x6 : FVec Ideal S16384x128 .f32) (t : Fin 16384) (g : Fin 3) (c : Fin 8) :
    val_main_v94 (F := Ideal) x4 x5 x6 (ix3 g t c : S3x16384x8.Idx) = ![heads x4 t c, heads x5 (src4 t) c, heads x6 (src16 t) c] g := by
  pointwise [val_main_v94, val_main_v93, val_main_v92, val_main_v91, l1_at, l2_at, val_main_v82]
  fin_cases g <;> rfl

theorem o_at (x1 x2 x3 : FVec Ideal S16384x512 .bf16) (t : Fin 16384) (g : Fin 3) (c : Fin 512) :
    val_main_v116 (F := Ideal) x1 x2 x3 (ix3 g t c : S3x16384x512.Idx) = ![mat x1 t c, mat x2 (src4 t) c, mat x3 (src16 t) c] g := by
  pointwise [val_main_v116, val_main_v115, val_main_v114, val_main_v113, val_main_v104, o1_at, o2_at]
  fin_cases g <;> rfl

theorem top_three (f : Fin 3 → EReal) : Finset.fold max (Ideal.ofBits FTy.f32 4286578688#32) f Finset.univ = top (f 0) (f 1) (f 2) := by
  have hb : Ideal.ofBits FTy.f32 4286578688#32 = ⊥ := by simp [Ideal.ofBits, Ideal.ieee]
  rw [hb]
  show Finset.univ.sup f = _
  rw [show (Finset.univ : Finset (Fin 3)) = ({0, 1, 2} : Finset (Fin 3)) from rfl, Finset.sup_insert, Finset.sup_insert, Finset.sup_singleton]
  exact (max_assoc _ _ _).symm

theorem top_at (x4 x5 x6 : FVec Ideal S16384x128 .f32) (t : Fin 16384) (c : Fin 8) :
    val_main_v95 (F := Ideal) x4 x5 x6 (ix2 t c : S16384x8.Idx) = top (heads x4 t c) (heads x5 (src4 t) c) (heads x6 (src16 t) c) := by
  pointwise [val_main_v95, val_main_cst_17, lse_at]
  exact top_three ![heads x4 t c, heads x5 (src4 t) c, heads x6 (src16 t) c]

/-- With real normalisers the weights' sum is not zero, and dividing by it is multiplying by its reciprocal. -/
theorem wt_eq (l0 l1 l2 : ℝ) (l : EReal) : Ideal.div (Ideal.exp (l - top l0 l1 l2)) (den l0 l1 l2) = wt l0 l1 l2 l := by
  have h : den l0 l1 l2 ≠ 0 := by
    have hm : ∀ a b : ℝ, max (a : EReal) b = ((max a b : ℝ) : EReal) := fun a b => (EReal.coe_strictMono.monotone.map_max).symm
    unfold den top
    rw [hm, hm, ← EReal.coe_sub, ← EReal.coe_sub, ← EReal.coe_sub, Ideal.exp_coe, Ideal.exp_coe, Ideal.exp_coe,
      ← EReal.coe_add, ← EReal.coe_add]
    exact_mod_cast (by positivity : (0:ℝ) < _).ne'
  unfold wt Ideal.div
  rw [if_neg h, if_neg h, one_mul]

theorem e_at (x4 x5 x6 : FVec Ideal S16384x128 .f32) (t : Fin 16384) (g : Fin 3) (c : Fin 8) (l0 l1 l2 : ℝ) (h0 : heads x4 t c = l0)
    (h1 : heads x5 (src4 t) c = l1) (h2 : heads x6 (src16 t) c = l2) :
    val_main_v103 (F := Ideal) x4 x5 x6 (ix3 g t c : S3x16384x8.Idx)
      = wt (heads x4 t c) (heads x5 (src4 t) c) (heads x6 (src16 t) c) (![heads x4 t c, heads x5 (src4 t) c, heads x6 (src16 t) c] g) := by
  pointwise [val_main_v103, val_main_v102, val_main_v101, val_main_v100, val_main_v99, val_main_v98, val_main_v97, val_main_v96, val_main_cst_18, top_at, lse_at]
  rw [h0, h1, h2]
  refine Eq.trans ?_ (wt_eq l0 l1 l2 _)
  refine congrArg (Ideal.div _) ?_
  rw [Fin.sum_univ_three]
  rfl

theorem o_lane (x1 x2 x3 : FVec Ideal S16384x512 .bf16) (g : Fin 3) (t : Fin 16384) (h : Fin 8) (d : Fin 64) :
    val_main_v117 (F := Ideal) x1 x2 x3 (ix4 g t h d : S3x16384x8x64.Idx) = val_main_v116 (F := Ideal) x1 x2 x3 (ix3 g t ⟨h * 64 + d, by omega⟩) := by
  pointwise [val_main_v117]

theorem e_lane (x4 x5 x6 : FVec Ideal S16384x128 .f32) (g : Fin 3) (t : Fin 16384) (h : Fin 8) (d : Fin 64) :
    val_main_v119 (F := Ideal) x4 x5 x6 (ix4 g t h d : S3x16384x8x64.Idx) = val_main_v103 (F := Ideal) x4 x5 x6 (ix3 g t h) := by
  pointwise [val_main_v119, val_main_v118]

theorem b_sum (x1 x2 x3 : FVec Ideal S16384x512 .bf16) (x4 x5 x6 : FVec Ideal S16384x128 .f32) (t : Fin 16384) (h : Fin 8) (d : Fin 64) :
    val_main_v121 (F := Ideal) x1 x2 x3 x4 x5 x6 (ix3 t h d : S16384x8x64.Idx) = ∑ g : Fin 3, val_main_v120 (F := Ideal) x1 x2 x3 x4 x5 x6 (ix4 g t h d : S3x16384x8x64.Idx) := by
  pointwise [val_main_v121, val_main_cst_19]

theorem b_lane (x1 x2 x3 : FVec Ideal S16384x512 .bf16) (x4 x5 x6 : FVec Ideal S16384x128 .f32) (t : Fin 16384) (c : Fin 512) :
    val_main_v122 (F := Ideal) x1 x2 x3 x4 x5 x6 (ix2 t c : S16384x512.Idx)
      = val_main_v121 (F := Ideal) x1 x2 x3 x4 x5 x6 (ix3 t (head c) ⟨c % 64, by omega⟩ : S16384x8x64.Idx) := by
  pointwise [val_main_v122]
  rfl

theorem b_at (x1 x2 x3 : FVec Ideal S16384x512 .bf16) (x4 x5 x6 : FVec Ideal S16384x128 .f32) (t : Fin 16384) (c : Fin 512) (l0 l1 l2 : ℝ)
    (h0 : heads x4 t (head c) = l0) (h1 : heads x5 (src4 t) (head c) = l1) (h2 : heads x6 (src16 t) (head c) = l2) :
    val_main_v122 (F := Ideal) x1 x2 x3 x4 x5 x6 (ix2 t c : S16384x512.Idx)
      = comb (heads x4 t) (heads x5 (src4 t)) (heads x6 (src16 t)) (mat x1 t) (mat x2 (src4 t)) (mat x3 (src16 t)) c := by
  have e : ∀ g, val_main_v120 (F := Ideal) x1 x2 x3 x4 x5 x6 (ix4 g t (head c) ⟨c % 64, by omega⟩ : S3x16384x8x64.Idx)
      = wt (heads x4 t (head c)) (heads x5 (src4 t) (head c)) (heads x6 (src16 t) (head c)) (![heads x4 t (head c), heads x5 (src4 t) (head c), heads x6 (src16 t) (head c)] g)
        * ![mat x1 t c, mat x2 (src4 t) c, mat x3 (src16 t) c] g := by
    intro g
    refine (val_main_v120_apply (F := Ideal) x1 x2 x3 x4 x5 x6 _).trans ?_
    refine congrArg₂ (fun a b : EReal => a * b) ((e_lane x4 x5 x6 g t _ _).trans (e_at x4 x5 x6 t g _ l0 l1 l2 h0 h1 h2)) ((o_lane x1 x2 x3 g t _ _).trans ?_)
    refine Eq.trans ?_ (o_at x1 x2 x3 t g c)
    refine congrArg (fun k => val_main_v116 (F := Ideal) x1 x2 x3 (ix3 g t k)) (Fin.ext ?_)
    show c.val / 64 * 64 + c.val % 64 = c.val
    omega
  rw [b_lane, b_sum, Fin.sum_univ_three, e, e, e]
  rfl

variable (x0 : FVec Ideal S16384x1024 .f32) (x1 x2 x3 : FVec Ideal S16384x512 .bf16) (x4 x5 x6 : FVec Ideal S16384x128 .f32)
  (x7 : FVec Ideal S16384x256 .f32) (x8 : FVec Ideal S1x1024 .f32) (x9 : FVec Ideal S1024x7680 .bf16) (x10 : FVec Ideal S1x512 .f32)
  (x11 : FVec Ideal S4x128x128 .bf16) (x12 : FVec Ideal S128x512 .f32) (x13 x14 : FVec Ideal S512x1024 .bf16)
  (x15 : FVec Ideal S1024x1024 .bf16) (x16 : FVec Ideal S1x1024 .f32) (x17 : FVec Ideal S1024x4096 .bf16)
  (x18 : FVec Ideal S4096x1024 .bf16) (x19 : FVec Ideal S1x1024 .f32) (x20 : FVec Ideal S1024x1024 .bf16) (x21 : FVec Ideal S256x1024 .bf16)

theorem x1_at (t : Fin 16384) (c : Fin 1024) :
    val_main_v132 (F := Ideal) x0 x1 x2 x3 x4 x5 x6 x8 x9 x10 x11 x12 x13 x14 x15 (ix2 t c : S16384x1024.Idx)
      = mat x0 t c + ∑ j, (val_main_v62 (F := Ideal) x0 x8 x9 (ix2 t j) * lin (fun k => val_main_v81 (F := Ideal) x0 x8 x9 x10 x11 x12 (ix2 t k)) (mat x13) j
          + val_main_v70 (F := Ideal) x0 x8 x9 (ix2 t j) * lin (fun k => val_main_v122 (F := Ideal) x1 x2 x3 x4 x5 x6 (ix2 t k)) (mat x14) j) * mat x15 j c := by
  pointwise [val_main_v132, val_main_v131, val_main_v130, val_main_v129, val_main_v128, val_main_v127, val_main_v126, val_main_v125, val_main_v124, val_main_v123, lin, mat]

theorem h2_at (t : Fin 16384) (c : Fin 1024) :
    val_main_v144 (F := Ideal) x0 x1 x2 x3 x4 x5 x6 x8 x9 x10 x11 x12 x13 x14 x15 x16 (ix2 t c : S16384x1024.Idx)
      = rms n1024 (fun c => val_main_v132 (F := Ideal) x0 x1 x2 x3 x4 x5 x6 x8 x9 x10 x11 x12 x13 x14 x15 (ix2 t c)) (mat x16 0) c := by
  pointwise [val_main_v144, val_main_v143, val_main_v142, val_main_v141, val_main_v140, val_main_v139, val_main_v138, val_main_v137, val_main_v136, val_main_v135, val_main_v134, val_main_v133, val_main_cst_20, val_main_cst_21, val_main_cst_22, rms, mat]

theorem x2_at (t : Fin 16384) (c : Fin 1024) :
    val_main_v151 (F := Ideal) x0 x1 x2 x3 x4 x5 x6 x8 x9 x10 x11 x12 x13 x14 x15 x16 x17 x18 (ix2 t c : S16384x1024.Idx)
      = val_main_v132 (F := Ideal) x0 x1 x2 x3 x4 x5 x6 x8 x9 x10 x11 x12 x13 x14 x15 (ix2 t c)
        + ffn (fun c => val_main_v144 (F := Ideal) x0 x1 x2 x3 x4 x5 x6 x8 x9 x10 x11 x12 x13 x14 x15 x16 (ix2 t c)) (mat x17) (mat x18) c := by
  pointwise [val_main_v151, val_main_v150, val_main_v149, val_main_v148, val_main_v147, val_main_v146, val_main_v145, val_main_call1_cst, val_main_call1_v0, ffn, lin, mat]

theorem h3_at (t : Fin 16384) (c : Fin 1024) :
    val_main_v163 (F := Ideal) x0 x1 x2 x3 x4 x5 x6 x8 x9 x10 x11 x12 x13 x14 x15 x16 x17 x18 x19 (ix2 t c : S16384x1024.Idx)
      = rms n1024 (fun c => val_main_v151 (F := Ideal) x0 x1 x2 x3 x4 x5 x6 x8 x9 x10 x11 x12 x13 x14 x15 x16 x17 x18 (ix2 t c)) (mat x19 0) c := by
  pointwise [val_main_v163, val_main_v162, val_main_v161, val_main_v160, val_main_v159, val_main_v158, val_main_v157, val_main_v156, val_main_v155, val_main_v154, val_main_v153, val_main_v152, val_main_cst_23, val_main_cst_24, val_main_cst_25, rms, mat]

theorem y_at (t : Fin 16384) (c : Fin 1024) :
    val_main_v175 (F := Ideal) x0 x1 x2 x3 x4 x5 x6 x7 x8 x9 x10 x11 x12 x13 x14 x15 x16 x17 x18 x19 x20 x21 (ix2 t c : S16384x1024.Idx)
      = val_main_v151 (F := Ideal) x0 x1 x2 x3 x4 x5 x6 x8 x9 x10 x11 x12 x13 x14 x15 x16 x17 x18 (ix2 t c)
        + Ideal.logistic (lin (fun c => val_main_v163 (F := Ideal) x0 x1 x2 x3 x4 x5 x6 x8 x9 x10 x11 x12 x13 x14 x15 x16 x17 x18 x19 (ix2 t c)) (mat x20) c) * lin (mat x7 t) (mat x21) c := by
  pointwise [val_main_v175, val_main_v174, val_main_v173, val_main_v172, val_main_v171, val_main_v170, val_main_v169, val_main_v168, val_main_v167, val_main_v166, val_main_v165, val_main_v164, val_main_cst_26, val_main_cst_27, lin, mat, Ideal.logistic]

theorem last_at (b : Fin 4) (s : Fin 128) (c : Fin 512) :
    val_main_v177 (F := Ideal) x0 x8 x9 x10 (ix3 b s c : S4x128x512.Idx)
      = val_main_v54 (F := Ideal) x0 x8 x9 x10 (ix2 ⟨b * 4096 + (3968 + s), by omega⟩ c) := by
  pointwise [val_main_v177, val_main_v176]

theorem va_out (t : Fin 16384) (c : Fin 512) : val_main_v54 (F := Ideal) x0 x8 x9 x10 (ix2 t c : S16384x512.Idx) = outVa x0 x8 x9 x10 t c :=
  va_at x0 x8 x9 x10 t c

theorem a_out (t : Fin 16384) (c : Fin 512) :
    val_main_v81 (F := Ideal) x0 x8 x9 x10 x11 x12 (ix2 t c : S16384x512.Idx)
      = (weights x8 x9 x10 x11 x12 x13 x14 x15 x16 x17 x18 x19 x20 x21).a (mat x0 t) (fun s => mat x0 (chunk t s)) (place t) c := by
  refine (val_main_v81_apply (F := Ideal) x0 x8 x9 x10 x11 x12 _).trans (congrArg₂ (fun a b : EReal => a * b) (u_at x0 x8 x9 t c) ((mix_at x0 x8 x9 x10 x11 x12 t c).trans ?_))
  refine congrArg (fun v => mix _ _ v _ c) ?_
  funext s c
  exact va_out x0 x8 x9 x10 (chunk t s) c

/-- The reference's first result, token by token. -/
theorem y_out (t : Fin 16384) (c : Fin 1024) (hf : ∀ h : Fin 8, (∃ l : ℝ, heads x4 t h = l) ∧ (∃ l : ℝ, heads x5 (src4 t) h = l) ∧ ∃ l : ℝ, heads x6 (src16 t) h = l) :
    val_main_v175 (F := Ideal) x0 x1 x2 x3 x4 x5 x6 x7 x8 x9 x10 x11 x12 x13 x14 x15 x16 x17 x18 x19 x20 x21 (ix2 t c : S16384x1024.Idx)
      = out x0 x1 x2 x3 x4 x5 x6 x7 x8 x9 x10 x11 x12 x13 x14 x15 x16 x17 x18 x19 x20 x21 t c := by
  have hb : ∀ c, val_main_v122 (F := Ideal) x1 x2 x3 x4 x5 x6 (ix2 t c : S16384x512.Idx)
      = comb (heads x4 t) (heads x5 (src4 t)) (heads x6 (src16 t)) (mat x1 t) (mat x2 (src4 t)) (mat x3 (src16 t)) c := by
    intro c
    obtain ⟨⟨l0, h0⟩, ⟨l1, h1⟩, ⟨l2, h2⟩⟩ := hf (head c)
    exact b_at x1 x2 x3 x4 x5 x6 t c l0 l1 l2 h0 h1 h2
  have h1 : ∀ c, val_main_v132 (F := Ideal) x0 x1 x2 x3 x4 x5 x6 x8 x9 x10 x11 x12 x13 x14 x15 (ix2 t c : S16384x1024.Idx)
      = (weights x8 x9 x10 x11 x12 x13 x14 x15 x16 x17 x18 x19 x20 x21).y1 (token x0 x1 x2 x3 x4 x5 x6 x7 t) (fun s => mat x0 (chunk t s)) (place t) c := by
    intro c
    rw [x1_at]
    simp only [ga_at, gb_at, hb, a_out x0 x8 x9 x10 x11 x12 x13 x14 x15 x16 x17 x18 x19 x20 x21]
    rfl
  have h2 : ∀ c, val_main_v151 (F := Ideal) x0 x1 x2 x3 x4 x5 x6 x8 x9 x10 x11 x12 x13 x14 x15 x16 x17 x18 (ix2 t c : S16384x1024.Idx)
      = (weights x8 x9 x10 x11 x12 x13 x14 x15 x16 x17 x18 x19 x20 x21).y2 (token x0 x1 x2 x3 x4 x5 x6 x7 t) (fun s => mat x0 (chunk t s)) (place t) c := by
    intro c
    rw [x2_at]
    simp only [h2_at, h1]
    rfl
  rw [y_at]
  simp only [h3_at, h2]
  rfl

end Cert.MergeReferenceIdeal.Mrg
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Merge
public import proofs.«01_k».proof.Proof.Gen.Merge.Frame.RunB
public import proofs.«01_k».proof.Proof.Gen.MergeIdeal
public import proofs.«01_k».proof.Proof.Gen.MergeIdeal.Frame.RunB
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Pre_finite_lses
public import Idealize.ShloMosaic.Lib.Claim
public import proofs.«01_k».proof.Proof.Final
public import proofs.«01_k».proof.Proof.Ref3
public import proofs.«01_k».proof.Proof.MFrameBits
public import proofs.«01_k».proof.Proof.MFinal
public import proofs.«01_k».proof.Proof.MRef

@[expose] public section

noncomputable section

namespace Cert.Proof

open Idealize.ShloMosaic Idealize.SL.Sem

/-- The infinity that the precondition compares with. -/
theorem inf_word : Ideal.ofBits FTy.f32 2139095040#32 = (⊤ : EReal) := by simp [Ideal.ofBits, Ideal.ieee]

/-- The precondition at one index: the query and the key there are real. -/
theorem real_at (q k v : FVec Ideal Cert.Pre_finite.S16384x512 .bf16) (a : FVec Ideal Cert.Pre_finite.S32x8x1536 .f32)
    (b d : FVec Ideal Cert.Pre_finite.S1536x128 .f32) (e : FVec Ideal Cert.Pre_finite.S32x2x8x64x128 .f32)
    (i : Cert.Pre_finite.S16384x512.Idx) (h : Cert.Pre_finite.fn (F := Ideal) q k v a b d e i = 1#1) :
    (∃ x : ℝ, q i = x) ∧ ∃ x : ℝ, k i = x := by
  have h' : IntOp.andi (Ideal.cmp .olt (max (q i) (-(q i))) (Ideal.ofBits FTy.f32 2139095040#32))
      (Ideal.cmp .olt (max (k i) (-(k i))) (Ideal.ofBits FTy.f32 2139095040#32)) = 1#1 := h
  rw [inf_word] at h'
  by_cases hq : max (q i) (-(q i)) < ⊤ <;> by_cases hk : max (k i) (-(k i)) < ⊤ <;>
    simp [Ideal.cmp, hq, hk, IntOp.andi] at h'
  exact ⟨Soft.real_of_abs_lt _ hq, Soft.real_of_abs_lt _ hk⟩

/-- Under the precondition every query and key is real. -/
theorem real_args (m : (ℓ : Loc Cert.KernelIdeal.nD Cert.KernelIdeal.τ Cert.KernelIdeal.sig) → Buf (Elt Ideal) ℓ)
    (hpre : Cert.Pre_KernelIdeal_finite m) (c : Dev Cert.KernelIdeal.nD) :
    (∀ j, ∃ x : ℝ, Cert.KernelIdeal.Att.Q m c j = x) ∧ ∀ j, ∃ x : ℝ, Cert.KernelIdeal.Att.K m c j = x := by
  have h := fun j => real_at _ _ _ _ _ _ _ j (congrFun (hpre c) j)
  exact ⟨fun j => (h j).1, fun j => (h j).2⟩

theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

theorem frame_ri : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem algebraic : Cert.algebraic_KernelIdeal_ReferenceIdeal_pre_finite := by
  pair_intro
  · run_from Cert.KernelIdeal.Gen.run_main m g
  · run_from Cert.ReferenceIdeal.Value.run (F := Ideal) m' g'
    · obtain ⟨h0, h1, h2, -⟩ := hagree c
      refine (Cert.ReferenceIdeal.Read.val_main_v77_eq (F := Ideal) m' c).trans ?_
      rw [h0, h1, h2]
      refine Eq.trans ?_ (Cert.KernelIdeal.Att.final9 m c).symm
      funext i
      have hr := real_args m hpre c
      exact (congrArg _ (ix2_eta i).symm).trans (Cert.ReferenceIdeal.Att.ref9 (Cert.KernelIdeal.Att.Q m c) (Cert.KernelIdeal.Att.K m c)
        (Cert.KernelIdeal.Att.W m c) hr.1 hr.2 (i 0) (i 1))
    · obtain ⟨h0, h1, h2, -⟩ := hagree c
      refine (Cert.ReferenceIdeal.Read.val_main_v79_eq (F := Ideal) m' c).trans ?_
      rw [h0, h1]
      refine Eq.trans ?_ (Cert.KernelIdeal.Att.final10 m c).symm
      funext i
      have hr := real_args m hpre c
      exact (congrArg _ (ix2_eta i).symm).trans (Cert.ReferenceIdeal.Att.ref10 (Cert.KernelIdeal.Att.Q m c) (Cert.KernelIdeal.Att.K m c)
        hr.1 hr.2 (i 0) (i 1))

section

open Cert.MergeReferenceIdeal Cert.MergeReferenceIdeal.Read

/-- The reference's first result from arrays that equal others: those arrays' token function. -/
theorem y_same (x0 : FVec Ideal S16384x1024 .f32) (x1 x2 x3 : FVec Ideal S16384x512 .bf16) (x4 x5 x6 : FVec Ideal S16384x128 .f32)
  (x7 : FVec Ideal S16384x256 .f32) (x8 : FVec Ideal S1x1024 .f32) (x9 : FVec Ideal S1024x7680 .bf16) (x10 : FVec Ideal S1x512 .f32)
  (x11 : FVec Ideal S4x128x128 .bf16) (x12 : FVec Ideal S128x512 .f32) (x13 x14 : FVec Ideal S512x1024 .bf16)
  (x15 : FVec Ideal S1024x1024 .bf16) (x16 : FVec Ideal S1x1024 .f32) (x17 : FVec Ideal S1024x4096 .bf16)
  (x18 : FVec Ideal S4096x1024 .bf16) (x19 : FVec Ideal S1x1024 .f32) (x20 : FVec Ideal S1024x1024 .bf16) (x21 : FVec Ideal S256x1024 .bf16)
    (y0 : FVec Ideal S16384x1024 .f32) (y1 y2 y3 : FVec Ideal S16384x512 .bf16) (y4 y5 y6 : FVec Ideal S16384x128 .f32)
  (y7 : FVec Ideal S16384x256 .f32) (y8 : FVec Ideal S1x1024 .f32) (y9 : FVec Ideal S1024x7680 .bf16) (y10 : FVec Ideal S1x512 .f32)
  (y11 : FVec Ideal S4x128x128 .bf16) (y12 : FVec Ideal S128x512 .f32) (y13 y14 : FVec Ideal S512x1024 .bf16)
  (y15 : FVec Ideal S1024x1024 .bf16) (y16 : FVec Ideal S1x1024 .f32) (y17 : FVec Ideal S1024x4096 .bf16)
  (y18 : FVec Ideal S4096x1024 .bf16) (y19 : FVec Ideal S1x1024 .f32) (y20 : FVec Ideal S1024x1024 .bf16) (y21 : FVec Ideal S256x1024 .bf16)
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21)
    (t : Fin 16384) (c : Fin 1024)
    (hf : ∀ h : Fin 8, (∃ l : ℝ, Row.heads y4 t h = l) ∧ (∃ l : ℝ, Row.heads y5 (Row.src4 t) h = l) ∧ ∃ l : ℝ, Row.heads y6 (Row.src16 t) h = l) :
    val_main_v175 (F := Ideal) x0 x1 x2 x3 x4 x5 x6 x7 x8 x9 x10 x11 x12 x13 x14 x15 x16 x17 x18 x19 x20 x21 (ix2 t c : S16384x1024.Idx)
      = Row.out y0 y1 y2 y3 y4 y5 y6 y7 y8 y9 y10 y11 y12 y13 y14 y15 y16 y17 y18 y19 y20 y21 t c := by
  subst h0 h1 h2 h3 h4 h5 h6 h7 h8 h9 h10 h11 h12 h13 h14 h15 h16 h17 h18 h19 h20 h21
  exact Cert.MergeReferenceIdeal.Mrg.y_out x0 x1 x2 x3 x4 x5 x6 x7 x8 x9 x10 x11 x12 x13 x14 x15 x16 x17 x18 x19 x20 x21 t c hf

/-- The reference's second result from arrays that equal others: the values of each prompt's last 128 tokens. -/
theorem va_same (x0 y0 : FVec Ideal S16384x1024 .f32) (x8 y8 : FVec Ideal S1x1024 .f32) (x9 y9 : FVec Ideal S1024x7680 .bf16) (x10 y10 : FVec Ideal S1x512 .f32)
    (h0 : x0 = y0) (h8 : x8 = y8) (h9 : x9 = y9) (h10 : x10 = y10) (b : Fin 4) (s : Fin 128) (c : Fin 512) :
    val_main_v177 (F := Ideal) x0 x8 x9 x10 (ix3 b s c : S4x128x512.Idx) = Row.outVa y0 y8 y9 y10 ⟨b.val * 4096 + (3968 + s.val), by omega⟩ c := by
  subst h0 h8 h9 h10
  exact (Cert.MergeReferenceIdeal.Mrg.last_at _ _ _ _ b s c).trans (Cert.MergeReferenceIdeal.Mrg.va_out _ _ _ _ _ c)

end

/-- The merge's precondition at one index: the three log-normalisers there are real. -/
theorem lses_at (x0 : FVec Ideal Cert.Pre_finite_lses.S16384x1024 .f32) (x1 x2 x3 : FVec Ideal Cert.Pre_finite_lses.S16384x512 .bf16)
    (x4 x5 x6 : FVec Ideal Cert.Pre_finite_lses.S16384x128 .f32) (x7 x8 x9 x10 x11 x12 x13 x14 x15 x16 x17 x18 x19 x20 x21)
    (i : Cert.Pre_finite_lses.S16384x128.Idx)
    (h : Cert.Pre_finite_lses.fn (F := Ideal) x0 x1 x2 x3 x4 x5 x6 x7 x8 x9 x10 x11 x12 x13 x14 x15 x16 x17 x18 x19 x20 x21 i = 1#1) :
    (∃ x : ℝ, x4 i = x) ∧ (∃ x : ℝ, x5 i = x) ∧ ∃ x : ℝ, x6 i = x := by
  have h' : IntOp.andi (IntOp.andi (Ideal.cmp .olt (max (x4 i) (-(x4 i))) (Ideal.ofBits FTy.f32 2139095040#32))
      (Ideal.cmp .olt (max (x5 i) (-(x5 i))) (Ideal.ofBits FTy.f32 2139095040#32)))
      (Ideal.cmp .olt (max (x6 i) (-(x6 i))) (Ideal.ofBits FTy.f32 2139095040#32)) = 1#1 := h
  rw [inf_word] at h'
  by_cases h4 : max (x4 i) (-(x4 i)) < ⊤ <;> by_cases h5 : max (x5 i) (-(x5 i)) < ⊤ <;> by_cases h6 : max (x6 i) (-(x6 i)) < ⊤ <;>
    simp [Ideal.cmp, h4, h5, h6, IntOp.andi] at h'
  exact ⟨Soft.real_of_abs_lt _ h4, Soft.real_of_abs_lt _ h5, Soft.real_of_abs_lt _ h6⟩

/-- Under the merge's precondition every log-normaliser is real. -/
theorem real_lses (m : (ℓ : Loc Cert.MergeIdeal.nD Cert.MergeIdeal.τ Cert.MergeIdeal.sig) → Buf (Elt Ideal) ℓ)
    (hpre : Cert.Pre_MergeIdeal_finite_lses m) (c : Dev Cert.MergeIdeal.nD) (j) :
    (∃ x : ℝ, Cert.MergeIdeal.Mrg.A4 m c j = x) ∧ (∃ x : ℝ, Cert.MergeIdeal.Mrg.A5 m c j = x) ∧ ∃ x : ℝ, Cert.MergeIdeal.Mrg.A6 m c j = x :=
  lses_at _ _ _ _ _ _ _ _ _ _ _ _ _ _ _ _ _ _ _ _ _ _ j (congrFun (hpre c) j)

theorem frame_mri : Cert.quiescent_MergeReferenceIdeal := fun m g _ =>
  (θ_run Cert.MergeReferenceIdeal.defs _ _).mono (fun r h => ⟨fun c => (h c).2.2, sem_eq_zero_of_no_sems (by decide) r.2⟩)
    (Cert.MergeReferenceIdeal.Value.run (F := Ideal) m g)

set_option maxHeartbeats 4000000 in
theorem algebraic_merge : Cert.algebraic_MergeIdeal_MergeReferenceIdeal_pre_finite_lses := by
  pair_intro
  · run_from Cert.MergeIdeal.Mrg.run_main m g & Cert.MergeIdeal.Mrg.unchanged m g
    · exact hc.1 27
    · exact hc.1 28
  · have same := hagree
    clear hagree
    run_from Cert.MergeReferenceIdeal.Value.run (F := Ideal) m' g'
    · obtain ⟨h0, h1, h2, h3, h4, h5, h6, h7, h8, h9, h10, h11, h12, h13, h14, h15, h16, h17, h18, h19, h20, h21⟩ := same c
      refine (Cert.MergeReferenceIdeal.Read.val_main_v175_eq (F := Ideal) (StableHlo.launchContents m' c)).trans (Eq.trans ?_ (Cert.MergeIdeal.Mrg.final27 m c).symm)
      funext i
      have hr := real_lses m hpre c
      exact (congrArg _ (ix2_eta i).symm).trans (y_same _ _ _ _ _ _ _ _ _ _ _ _ _ _ _ _ _ _ _ _ _ _
        (Cert.MergeIdeal.Mrg.A0 m c) (Cert.MergeIdeal.Mrg.A1 m c) (Cert.MergeIdeal.Mrg.A2 m c) (Cert.MergeIdeal.Mrg.A3 m c) (Cert.MergeIdeal.Mrg.A4 m c) (Cert.MergeIdeal.Mrg.A5 m c) (Cert.MergeIdeal.Mrg.A6 m c) (Cert.MergeIdeal.Mrg.A7 m c) (Cert.MergeIdeal.Mrg.A8 m c) (Cert.MergeIdeal.Mrg.A9 m c) (Cert.MergeIdeal.Mrg.A10 m c) (Cert.MergeIdeal.Mrg.A11 m c) (Cert.MergeIdeal.Mrg.A12 m c) (Cert.MergeIdeal.Mrg.A13 m c) (Cert.MergeIdeal.Mrg.A14 m c) (Cert.MergeIdeal.Mrg.A15 m c) (Cert.MergeIdeal.Mrg.A16 m c) (Cert.MergeIdeal.Mrg.A17 m c) (Cert.MergeIdeal.Mrg.A18 m c) (Cert.MergeIdeal.Mrg.A19 m c) (Cert.MergeIdeal.Mrg.A20 m c) (Cert.MergeIdeal.Mrg.A21 m c)
        h0 h1 h2 h3 h4 h5 h6 h7 h8 h9 h10 h11 h12 h13 h14 h15 h16 h17 h18 h19 h20 h21 (i 0) (i 1)
        fun h => ⟨(hr _).1, (hr _).2.1, (hr _).2.2⟩)
    · obtain ⟨h0, -, -, -, -, -, -, -, h8, h9, h10, -⟩ := same c
      refine (Cert.MergeReferenceIdeal.Read.val_main_v177_eq (F := Ideal) (StableHlo.launchContents m' c)).trans (Eq.trans ?_ (Cert.MergeIdeal.Mrg.final28 m c).symm)
      funext i
      exact (congrArg _ (ix3_eta i).symm).trans (va_same _ (Cert.MergeIdeal.Mrg.A0 m c) _ (Cert.MergeIdeal.Mrg.A8 m c) _ (Cert.MergeIdeal.Mrg.A9 m c) _
        (Cert.MergeIdeal.Mrg.A10 m c) h0 h8 h9 h10 (i 0) (i 1) (i 2))

theorem claim : Cert.Claim := ⟨Cert.Kernel.Gen.facts, Cert.KernelIdeal.Gen.facts, Cert.ReferenceIdeal.Gen.facts, Cert.Merge.Gen.facts, Cert.MergeIdeal.Gen.facts,
  Cert.MergeReferenceIdeal.Gen.facts, Cert.Pre_finite.Gen.facts, Cert.Pre_finite_lses.Gen.facts,
  fun m g _ => Cert.Kernel.Gen.frame m g, fun m g _ => Cert.KernelIdeal.Gen.frame m g, fun m g _ => Cert.KernelIdeal.Gen.frame m g,
  frame_ri, fun m g _ => frame_ri m g trivial,
  fun m g _ => Cert.Merge.Mrg.frame m g, fun m g _ => Cert.MergeIdeal.Mrg.frame m g, fun m g _ => Cert.MergeIdeal.Mrg.frame m g,
  frame_mri, fun m g _ => frame_mri m g trivial, preserves, algebraic, trivial, algebraic_merge⟩

end Cert.Proof

end
